-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S64x2x128x64 : Shape := ⟨4, ![64, 2, 128, 64]⟩
abbrev S512x512 : Shape := ⟨2, ![512, 512]⟩
abbrev S17x512x512 : Shape := ⟨3, ![17, 512, 512]⟩
abbrev S8x2 : Shape := ⟨2, ![8, 2]⟩
abbrev S7x2 : Shape := ⟨2, ![7, 2]⟩
abbrev S_ : Shape := ⟨0, ![]⟩
abbrev S128x128 : Shape := ⟨2, ![128, 128]⟩
abbrev S1x512x512 : Shape := ⟨3, ![1, 512, 512]⟩
abbrev S1x1 : Shape := ⟨2, ![1, 1]⟩
abbrev S1x256x512 : Shape := ⟨3, ![1, 256, 512]⟩
abbrev S4x2x128x64 : Shape := ⟨4, ![4, 2, 128, 64]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x1x128x64 : Shape := ⟨4, ![1, 1, 128, 64]⟩
abbrev S128 : Shape := ⟨1, ![128]⟩
abbrev S128x1 : Shape := ⟨2, ![128, 1]⟩

abbrev nBuf : Space → Nat
  | .hbm => 13
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x64x64, .f32⟩
  | .hbm, ⟨3, _⟩ => ⟨S2x128x64x64, .f32⟩
  | .hbm, ⟨4, _⟩ => ⟨S256x512, .f32⟩
  | .hbm, ⟨5, _⟩ => ⟨S64x2x128x64, .f32⟩
  | .hbm, ⟨6, _⟩ => ⟨S64x2x128x64, .bf16⟩
  | .hbm, ⟨7, _⟩ => ⟨S64x2x128x64, .f32⟩
  | .hbm, ⟨8, _⟩ => ⟨S64x2x128x64, .bf16⟩
  | .hbm, ⟨9, _⟩ => ⟨S512x256, .f32⟩
  | .hbm, ⟨10, _⟩ => ⟨S512x512, .f32⟩
  | .hbm, ⟨11, _⟩ => ⟨S512x512, .bf16⟩
  | .hbm, ⟨12, _⟩ => ⟨S2x128x512, .f32⟩
  | .local _ .vmem, ⟨0, _⟩ => ⟨S2x128x512, .f32⟩
  | .local _ .vmem, ⟨1, _⟩ => ⟨S512x512, .bf16⟩
  | .local _ .vmem, ⟨2, _⟩ => ⟨S64x2x128x64, .bf16⟩
  | .local _ .vmem, ⟨3, _⟩ => ⟨S64x2x128x64, .bf16⟩
  | .local _ .vmem, ⟨4, _⟩ => ⟨S2x128x512, .f32⟩
  | .local _ .vmem, ⟨5, _⟩ => ⟨S17x512x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_46 : BitVec 32 := 1#32
  let v91 : BitVec 32 := Scalar.muli v7 c1_i32_46
  let v92 : BitVec 32 := Scalar.addi c0_i32_47 v91
  v92.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_56 : BitVec 32 := 1#32
  let v101 : BitVec 32 := Scalar.muli v5 c1_i32_56
  let v102 : BitVec 32 := Scalar.addi c0_i32_57 v101
  v102.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_68 : BitVec 32 := 1#32
  let v111 : BitVec 32 := Scalar.muli v7 c1_i32_68
  let v112 : BitVec 32 := Scalar.addi c0_i32_69 v111
  v112.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_79 : BitVec 32 := 1#32
  let v121 : BitVec 32 := Scalar.muli v5 c1_i32_79
  let v122 : BitVec 32 := Scalar.addi c0_i32_80 v121
  v122.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v135 : BitVec 32 := Scalar.muli v2 c4_i32
  let v136 : Index := Scalar.indexCast v135
  let c0_88 : Index := 0#32
  let c0_89 : Index := 0#32
  let c0_90 : Index := 0#32
  ![v136.toNat, 0, 0, 0]
@[reducible] def k0_t1_loop : Scf.Loop 32 :=
  let c1_i32_158 : BitVec 32 := 1#32
  let c8_i32 : BitVec 32 := 8#32
  let v337 : BitVec 32 := Scalar.addi c1_i32_158 c8_i32
  let c1_i32_159 : BitVec 32 := 1#32
  ⟨c1_i32_158, v337, c1_i32_159⟩
def k0_off2 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_162 : BitVec 32 := 1#32
  let v339 : BitVec 32 := Scalar.subi arg10 c1_i32_162
  let c0_i32_164 : BitVec 32 := 0#32
  ![v339.toNat, 0]
def k0_off3 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_161 : BitVec 32 := 1#32
  let v338 : BitVec 32 := Scalar.subi arg10 c1_i32_161
  let c0_i32_167 : BitVec 32 := 0#32
  let c0_i32_168 : BitVec 32 := 0#32
  ![v338.toNat, 0, 0]
def k0_off4 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c0_i32_169 : BitVec 32 := 0#32
  let c0_i32_170 : BitVec 32 := 0#32
  ![arg10.toNat, 0, 0]
def k0_cond1 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c8_i32_179 : BitVec 32 := 8#32
  let v355 : BitVec 1 := Scalar.cmpi .slt arg10 c8_i32_179
  let v356 : BitVec 32 := Scalar.extui v355
  let c0_i32_180 : BitVec 32 := 0#32
  let v357 : BitVec 1 := Scalar.cmpi .ne v356 c0_i32_180
  v357

def k0_off5 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c1_i32_282 : BitVec 32 := 1#32
  let v596 : BitVec 32 := Scalar.subi v594 c1_i32_282
  let c0_i32_285 : BitVec 32 := 0#32
  ![v596.toNat, 0]
def k0_off6 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c0_i32_288 : BitVec 32 := 0#32
  let c0_i32_289 : BitVec 32 := 0#32
  ![v594.toNat, 0, 0]
def k0_off7 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c1_i32_281 : BitVec 32 := 1#32
  let v595 : BitVec 32 := Scalar.subi v594 c1_i32_281
  let c0_i32_290 : BitVec 32 := 0#32
  let c0_i32_291 : BitVec 32 := 0#32
  ![v595.toNat, 0, 0]
def k0_dev7 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_286 : BitVec 32 := 1#32
  let v598 : BitVec 32 := Scalar.muli v7 c1_i32_286
  let v599 : BitVec 32 := Scalar.addi c0_i32_287 v598
  v599.toNat
def k0_off8 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_182 : BitVec 32 := 1#32
  let v359 : BitVec 32 := Scalar.subi arg10 c1_i32_182
  let c1_i32_184 : BitVec 32 := 1#32
  ![v359.toNat, 1]
def k0_off9 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_181 : BitVec 32 := 1#32
  let v358 : BitVec 32 := Scalar.subi arg10 c1_i32_181
  let c256_i32_187 : BitVec 32 := 256#32
  let c0_i32_188 : BitVec 32 := 0#32
  ![v358.toNat, 256, 0]
def k0_off10 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c256_i32_189 : BitVec 32 := 256#32
  let c0_i32_190 : BitVec 32 := 0#32
  ![arg10.toNat, 256, 0]
def k0_cond2 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c8_i32_199 : BitVec 32 := 8#32
  let v375 : BitVec 1 := Scalar.cmpi .slt arg10 c8_i32_199
  let v376 : BitVec 32 := Scalar.extui v375
  let c0_i32_200 : BitVec 32 := 0#32
  let v377 : BitVec 1 := Scalar.cmpi .ne v376 c0_i32_200
  v377

def k0_off11 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c1_i32_282 : BitVec 32 := 1#32
  let v596 : BitVec 32 := Scalar.subi v594 c1_i32_282
  let c1_i32_285 : BitVec 32 := 1#32
  ![v596.toNat, 1]
def k0_off12 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c256_i32_288 : BitVec 32 := 256#32
  let c0_i32_289 : BitVec 32 := 0#32
  ![v594.toNat, 256, 0]
def k0_off13 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let c1_i32_280 : BitVec 32 := 1#32
  let v594 : BitVec 32 := Scalar.addi arg10 c1_i32_280
  let c1_i32_281 : BitVec 32 := 1#32
  let v595 : BitVec 32 := Scalar.subi v594 c1_i32_281
  let c256_i32_290 : BitVec 32 := 256#32
  let c0_i32_291 : BitVec 32 := 0#32
  ![v595.toNat, 256, 0]
def k0_dev8 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_286 : BitVec 32 := 1#32
  let v598 : BitVec 32 := Scalar.muli v7 c1_i32_286
  let v599 : BitVec 32 := Scalar.addi c0_i32_287 v598
  v599.toNat
def k0_cond3 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c7_i32 : BitVec 32 := 7#32
  let v378 : BitVec 1 := Scalar.cmpi .sle arg10 c7_i32
  let v379 : BitVec 32 := Scalar.extui v378
  let c0_i32_201 : BitVec 32 := 0#32
  let v380 : BitVec 1 := Scalar.cmpi .ne v379 c0_i32_201
  v380

def k0_off14 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_283 : BitVec 32 := 1#32
  let v597 : BitVec 32 := Scalar.subi arg10 c1_i32_283
  let c0_i32_285 : BitVec 32 := 0#32
  ![v597.toNat, 0]
def k0_off15 (k0_t1 : Fin k0_t1_loop.trips) : Fin 3 → Nat :=
  let c9_i32_280 : BitVec 32 := 9#32
  let c1_i32_158 : BitVec 32 := 1#32
  let c1_i32_159 : BitVec 32 := 1#32
  let arg10 : BitVec 32 := Scf.iv c1_i32_158 c1_i32_159 k0_t1
  let v594 : BitVec 32 := Scalar.addi c9_i32_280 arg10
  let c1_i32_281 : BitVec 32 := 1#32
  let v595 : BitVec 32 := Scalar.subi v594 c1_i32_281
  let c0_i32_288 : BitVec 32 := 0#32
  let c0_i32_289 : BitVec 32 := 0#32
  ![v595.toNat, 0, 0]
def k0_off16 (k0_t1 : Fin k0_t1_loop.trips) : Fin 3 → Nat :=
  let c9_i32_282 : BitVec 32 := 9#32
  let c1_i32_158 : BitVec 32 := 1#32
  let c1_i32_159 : BitVec 32 := 1#32
  let arg10 : BitVec 32 := Scf.iv c1_i32_158 c1_i32_159 k0_t1
  let v596 : BitVec 32 := Scalar.addi c9_i32_282 arg10
  let c0_i32_290 : BitVec 32 := 0#32
  let c0_i32_291 : BitVec 32 := 0#32
  ![v596.toNat, 0, 0]
def k0_cond4 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c7_i32_300 : BitVec 32 := 7#32
  let v613 : BitVec 1 := Scalar.cmpi .slt arg10 c7_i32_300
  let v614 : BitVec 32 := Scalar.extui v613
  let c0_i32_301 : BitVec 32 := 0#32
  let v615 : BitVec 1 := Scalar.cmpi .ne v614 c0_i32_301
  v615

def k0_off17 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let c1_i32_328 : BitVec 32 := 1#32
  let v642 : BitVec 32 := Scalar.subi v638 c1_i32_328
  let c0_i32_331 : BitVec 32 := 0#32
  ![v642.toNat, 0]
def k0_off18 (k0_t1 : Fin k0_t1_loop.trips) : Fin 3 → Nat :=
  let c9_i32_327 : BitVec 32 := 9#32
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let v641 : BitVec 32 := Scalar.addi c9_i32_327 v638
  let c0_i32_334 : BitVec 32 := 0#32
  let c0_i32_335 : BitVec 32 := 0#32
  ![v641.toNat, 0, 0]
def k0_off19 (k0_t1 : Fin k0_t1_loop.trips) : Fin 3 → Nat :=
  let c9_i32_325 : BitVec 32 := 9#32
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let v639 : BitVec 32 := Scalar.addi c9_i32_325 v638
  let c1_i32_326 : BitVec 32 := 1#32
  let v640 : BitVec 32 := Scalar.subi v639 c1_i32_326
  let c0_i32_336 : BitVec 32 := 0#32
  let c0_i32_337 : BitVec 32 := 0#32
  ![v640.toNat, 0, 0]
def k0_dev9 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_332 : BitVec 32 := 1#32
  let v644 : BitVec 32 := Scalar.muli v5 c1_i32_332
  let v645 : BitVec 32 := Scalar.addi c0_i32_333 v644
  v645.toNat
def k0_off20 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_305 : BitVec 32 := 1#32
  let v619 : BitVec 32 := Scalar.subi arg10 c1_i32_305
  let c1_i32_307 : BitVec 32 := 1#32
  ![v619.toNat, 1]
def k0_off21 (k0_t1 : Fin k0_t1_loop.trips) : Fin 3 → Nat :=
  let c9_i32_302 : BitVec 32 := 9#32
  let c1_i32_158 : BitVec 32 := 1#32
  let c1_i32_159 : BitVec 32 := 1#32
  let arg10 : BitVec 32 := Scf.iv c1_i32_158 c1_i32_159 k0_t1
  let v616 : BitVec 32 := Scalar.addi c9_i32_302 arg10
  let c1_i32_303 : BitVec 32 := 1#32
  let v617 : BitVec 32 := Scalar.subi v616 c1_i32_303
  let c256_i32_310 : BitVec 32 := 256#32
  let c0_i32_311 : BitVec 32 := 0#32
  ![v617.toNat, 256, 0]
def k0_off22 (k0_t1 : Fin k0_t1_loop.trips) : Fin 3 → Nat :=
  let c9_i32_304 : BitVec 32 := 9#32
  let c1_i32_158 : BitVec 32 := 1#32
  let c1_i32_159 : BitVec 32 := 1#32
  let arg10 : BitVec 32 := Scf.iv c1_i32_158 c1_i32_159 k0_t1
  let v618 : BitVec 32 := Scalar.addi c9_i32_304 arg10
  let c256_i32_312 : BitVec 32 := 256#32
  let c0_i32_313 : BitVec 32 := 0#32
  ![v618.toNat, 256, 0]
def k0_cond5 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c7_i32_322 : BitVec 32 := 7#32
  let v635 : BitVec 1 := Scalar.cmpi .slt arg10 c7_i32_322
  let v636 : BitVec 32 := Scalar.extui v635
  let c0_i32_323 : BitVec 32 := 0#32
  let v637 : BitVec 1 := Scalar.cmpi .ne v636 c0_i32_323
  v637

def k0_off23 (k0_t1 : Fin k0_t1_loop.trips) : Fin 2 → Nat :=
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let c1_i32_328 : BitVec 32 := 1#32
  let v642 : BitVec 32 := Scalar.subi v638 c1_i32_328
  let c1_i32_331 : BitVec 32 := 1#32
  ![v642.toNat, 1]
def k0_off24 (k0_t1 : Fin k0_t1_loop.trips) : Fin 3 → Nat :=
  let c9_i32_327 : BitVec 32 := 9#32
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let v641 : BitVec 32 := Scalar.addi c9_i32_327 v638
  let c256_i32_334 : BitVec 32 := 256#32
  let c0_i32_335 : BitVec 32 := 0#32
  ![v641.toNat, 256, 0]
def k0_off25 (k0_t1 : Fin k0_t1_loop.trips) : Fin 3 → Nat :=
  let c9_i32_325 : BitVec 32 := 9#32
  let c1_i32_158 : BitVec 32 := 1#32
  let c1_i32_159 : BitVec 32 := 1#32
  let arg10 : BitVec 32 := Scf.iv c1_i32_158 c1_i32_159 k0_t1
  let c1_i32_324 : BitVec 32 := 1#32
  let v638 : BitVec 32 := Scalar.addi arg10 c1_i32_324
  let v639 : BitVec 32 := Scalar.addi c9_i32_325 v638
  let c1_i32_326 : BitVec 32 := 1#32
  let v640 : BitVec 32 := Scalar.subi v639 c1_i32_326
  let c256_i32_336 : BitVec 32 := 256#32
  let c0_i32_337 : BitVec 32 := 0#32
  ![v640.toNat, 256, 0]
def k0_dev10 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_332 : BitVec 32 := 1#32
  let v644 : BitVec 32 := Scalar.muli v5 c1_i32_332
  let v645 : BitVec 32 := Scalar.addi c0_i32_333 v644
  v645.toNat
def k0_off26 (k0_t1 : Fin k0_t1_loop.trips) : Fin 3 → Nat :=
  let c1_i32_158 : BitVec 32 := 1#32
  let c1_i32_159 : BitVec 32 := 1#32
  let arg10 : BitVec 32 := Scf.iv c1_i32_158 c1_i32_159 k0_t1
  let v384 : Index := Scalar.indexCast arg10
  let c0_204 : Index := 0#32
  let c0_205 : Index := 0#32
  ![v384.toNat, 0, 0]
def k0_off27 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_158 : BitVec 32 := 1#32
  let c1_i32_159 : BitVec 32 := 1#32
  let arg10 : BitVec 32 := Scf.iv c1_i32_158 c1_i32_159 k0_t1
  let v381 : BitVec 32 := Scalar.subi v2 arg10
  let c16_i32_202 : BitVec 32 := 16#32
  let v382 : BitVec 32 := Scalar.addi v381 c16_i32_202
  let c16_i32_203 : BitVec 32 := 16#32
  let v383 : BitVec 32 := Scalar.remsi v382 c16_i32_203
  let c4_i32_206 : BitVec 32 := 4#32
  let v389 : BitVec 32 := Scalar.muli v383 c4_i32_206
  let v390 : Index := Scalar.indexCast v389
  let c0_207 : Index := 0#32
  let c0_208 : Index := 0#32
  let c0_209 : Index := 0#32
  ![v390.toNat, 0, 0, 0]
def k0_cond6 (k0_t1 : Fin k0_t1_loop.trips) : BitVec 1 :=
  let c1_i32_158 : BitVec 32 := 1#32
  let c1_i32_159 : BitVec 32 := 1#32
  let arg10 : BitVec 32 := Scf.iv c1_i32_158 c1_i32_159 k0_t1
  let c7_i32_278 : BitVec 32 := 7#32
  let v591 : BitVec 1 := Scalar.cmpi .sle arg10 c7_i32_278
  let v592 : BitVec 32 := Scalar.extui v591
  let c0_i32_279 : BitVec 32 := 0#32
  let v593 : BitVec 1 := Scalar.cmpi .ne v592 c0_i32_279
  v593

def k0_off28 (k0_t1 : Fin k0_t1_loop.trips) : Fin 3 → Nat :=
  let c9_i32_281 : BitVec 32 := 9#32
  let c1_i32_158 : BitVec 32 := 1#32
  let c1_i32_159 : BitVec 32 := 1#32
  let arg10 : BitVec 32 := Scf.iv c1_i32_158 c1_i32_159 k0_t1
  let v596 : BitVec 32 := Scalar.addi c9_i32_281 arg10
  let v597 : Index := Scalar.indexCast v596
  let c0_282 : Index := 0#32
  let c0_283 : Index := 0#32
  ![v597.toNat, 0, 0]
def k0_off29 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_158 : BitVec 32 := 1#32
  let c1_i32_159 : BitVec 32 := 1#32
  let arg10 : BitVec 32 := Scf.iv c1_i32_158 c1_i32_159 k0_t1
  let v594 : BitVec 32 := Scalar.addi v2 arg10
  let c16_i32_280 : BitVec 32 := 16#32
  let v595 : BitVec 32 := Scalar.remsi v594 c16_i32_280
  let c4_i32_284 : BitVec 32 := 4#32
  let v602 : BitVec 32 := Scalar.muli v595 c4_i32_284
  let v603 : Index := Scalar.indexCast v602
  let c0_285 : Index := 0#32
  let c0_286 : Index := 0#32
  let c0_287 : Index := 0#32
  ![v603.toNat, 0, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x2048x512 : Shape := ⟨3, ![2, 2048, 512]⟩
abbrev S512x4096 : Shape := ⟨2, ![512, 4096]⟩
abbrev S2x128x64x64 : Shape := ⟨4, ![2, 128, 64, 64]⟩
abbrev S4096x512 : Shape := ⟨2, ![4096, 512]⟩
abbrev S2x2048x4096 : Shape := ⟨3, ![2, 2048, 4096]⟩
abbrev S2x2048x64x64 : Shape := ⟨4, ![2, 2048, 64, 64]⟩
abbrev S2048 : Shape := ⟨1, ![2048]⟩
abbrev S_ : Shape := ⟨0, ![]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S2x64x2048x128 : Shape := ⟨4, ![2, 64, 2048, 128]⟩
abbrev S1x1x2048x128 : Shape := ⟨4, ![1, 1, 2048, 128]⟩
abbrev S2x64x2048 : Shape := ⟨3, ![2, 64, 2048]⟩
abbrev S2x64x2048x1 : Shape := ⟨4, ![2, 64, 2048, 1]⟩
abbrev S1x1x2048x1 : Shape := ⟨4, ![1, 1, 2048, 1]⟩
abbrev S2x64x64x2048 : Shape := ⟨4, ![2, 64, 64, 2048]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x4096, .f32⟩
  | .hbm, ⟨2, _⟩ => ⟨S2x128x64x64, .f32⟩
  | .hbm, ⟨3, _⟩ => ⟨S2x128x64x64, .f32⟩
  | .hbm, ⟨4, _⟩ => ⟨S4096x512, .f32⟩
  | .hbm, ⟨5, _⟩ => ⟨S2x2048x4096, .f32⟩
  | .hbm, ⟨6, _⟩ => ⟨S2x2048x64x64, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S2048x128, .i32⟩
  | .hbm, ⟨48, _⟩ => ⟨S2048x128, .i32⟩
  | .hbm, ⟨49, _⟩ => ⟨S2048x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S2048x128, .i1⟩
  | .hbm, ⟨54, _⟩ => ⟨S2048x128, .i1⟩
  | .hbm, ⟨55, _⟩ => ⟨S2048x128, .i32⟩
  | .hbm, ⟨56, _⟩ => ⟨S2048x128, .i32⟩
  | .hbm, ⟨57, _⟩ => ⟨S2048x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x128, .i32⟩
  | .hbm, ⟨65, _⟩ => ⟨S2048x128, .i32⟩
  | .hbm, ⟨66, _⟩ => ⟨S_, .i32⟩
  | .hbm, ⟨67, _⟩ => ⟨S2048x128, .i32⟩
  | .hbm, ⟨68, _⟩ => ⟨S2048x128, .i1⟩
  | .hbm, ⟨69, _⟩ => ⟨S_, .i32⟩
  | .hbm, ⟨70, _⟩ => ⟨S2048x128, .i32⟩
  | .hbm, ⟨71, _⟩ => ⟨S2048x128, .i1⟩
  | .hbm, ⟨72, _⟩ => ⟨S_, .i32⟩
  | .hbm, ⟨73, _⟩ => ⟨S_, .i1⟩
  | .hbm, ⟨74, _⟩ => ⟨S2048x128, .i1⟩
  | .hbm, ⟨75, _⟩ => ⟨S2048x128, .i1⟩
  | .hbm, ⟨76, _⟩ => ⟨S2048x128, .i1⟩
  | .hbm, ⟨77, _⟩ => ⟨S2048x128, .i32⟩
  | .hbm, ⟨78, _⟩ => ⟨S2048x128, .i32⟩
  | .hbm, ⟨79, _⟩ => ⟨S2048x128, .i32⟩
  | .hbm, ⟨80, _⟩ => ⟨S_, .i32⟩
  | .hbm, ⟨81, _⟩ => ⟨S2048x128, .i32⟩
  | .hbm, ⟨82, _⟩ => ⟨S2048x128, .i1⟩
  | .hbm, ⟨83, _⟩ => ⟨S2048x128, .i1⟩
  | .hbm, ⟨84, _⟩ => ⟨S2x64x2048x128, .f32⟩
  | .hbm, ⟨85, _⟩ => ⟨S_, .f32⟩
  | .hbm, ⟨86, _⟩ => ⟨S2x64x2048x128, .f32⟩
  | .hbm, ⟨87, _⟩ => ⟨S2x64x2048x128, .f32⟩
  | .hbm, ⟨88, _⟩ => ⟨S1x1x2048x128, .i1⟩
  | .hbm, ⟨89, _⟩ => ⟨S_, .f32⟩
  | .hbm, ⟨90, _⟩ => ⟨S_, .f32⟩
  | .hbm, ⟨91, _⟩ => ⟨S2x64x2048x128, .i1⟩
  | .hbm, ⟨92, _⟩ => ⟨S2x64x2048x128, .f32⟩
  | .hbm, ⟨93, _⟩ => ⟨S2x64x2048x128, .f32⟩
  | .hbm, ⟨94, _⟩ => ⟨S_, .f32⟩
  | .hbm, ⟨95, _⟩ => ⟨S2x64x2048, .f32⟩
  | .hbm, ⟨96, _⟩ => ⟨S2x64x2048x1, .f32⟩
  | .hbm, ⟨97, _⟩ => ⟨S2x64x2048x128, .f32⟩
  | .hbm, ⟨98, _⟩ => ⟨S2x64x2048x128, .f32⟩
  | .hbm, ⟨99, _⟩ => ⟨S2x64x2048x128, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S2x64x2048, .f32⟩
  | .hbm, ⟨105, _⟩ => ⟨S2x64x2048x1, .f32⟩
  | .hbm, ⟨106, _⟩ => ⟨S_, .f32⟩
  | .hbm, ⟨107, _⟩ => ⟨S_, .f32⟩
  | .hbm, ⟨108, _⟩ => ⟨S2x64x2048x1, .i1⟩
  | .hbm, ⟨109, _⟩ => ⟨S2x64x2048x1, .f32⟩
  | .hbm, ⟨110, _⟩ => ⟨S2x64x2048x1, .f32⟩
  | .hbm, ⟨111, _⟩ => ⟨S2x64x2048x128, .f32⟩
  | .hbm, ⟨112, _⟩ => ⟨S2x64x2048x128, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S2x64x2048x128, .i1⟩
  | .hbm, ⟨117, _⟩ => ⟨S2x64x2048x128, .f32⟩
  | .hbm, ⟨118, _⟩ => ⟨S2x64x2048x128, .f32⟩
  | .hbm, ⟨119, _⟩ => ⟨S2x64x64x2048, .f32⟩
  | .hbm, ⟨120, _⟩ => ⟨S2x2048x64x64, .f32⟩
  | .hbm, ⟨121, _⟩ => ⟨S2x2048x4096, .f32⟩
  | .hbm, ⟨122, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Comm.lean ====
/-
The communication buffer of the ring all-gather: its slots and their halves.

Seventeen slots of 512 × 512: slots 0 to 8 travel clockwise (slot `h` of device `c` ends up holding the weights of
device `c - h`), slots 9 to 16 counter-clockwise (slot `9 + h` ends up holding those of device `c + h`). Every
transfer moves one half slot, 256 rows.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Rounds
public import Idealize.ShloMosaic.Lib.Rounds.Family
public import Idealize.ShloMosaic.Lib.Tactic

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring of devices -/

/-- The device `h` places before `c` round the ring of sixteen. -/
def back (c : Dev nD) (h : ℕ) : Dev nD := ⟨(c.val + (16 - h % 16)) % 16, Nat.mod_lt _ (by decide)⟩
/-- The device `h` places after `c`. -/
def ahead (c : Dev nD) (h : ℕ) : Dev nD := ⟨(c.val + h) % 16, Nat.mod_lt _ (by decide)⟩

/-- The neighbour a direction sends to: clockwise (`false`) the next device, counter-clockwise (`true`) the one before. -/
def peer (d : Bool) (c : Dev nD) : Dev nD := if d then back c 1 else ahead c 1

theorem peer_peer (d : Bool) (c : Dev nD) : peer (!d) (peer d c) = c := by revert c d; decide

/-- The number of transfers each way: the clockwise ring goes half way round and one further. -/
def hops (d : Bool) : ℕ := if d then 7 else 8
/-- The slot a direction starts from. -/
def base (d : Bool) : ℕ := if d then 9 else 0

/-- Whose weights slot `j` of device `c` ends up holding. -/
def owner (c : Dev nD) (j : ℕ) : Dev nD := if j < 9 then back c j else ahead c (j - 9)

theorem owner_step (d : Bool) (c : Dev nD) (k : ℕ) (hk : k < hops d) :
    owner (peer d c) (base d + k + 1) = owner c (base d + k) := by
  cases d <;> (simp only [hops, base, Bool.false_eq_true, if_false, if_true] at hk ⊢; revert c; revert k; decide)

/-- The neighbours as the kernel computes them. -/
theorem dev_next {c n : Dev nD} (h : n.val = (c.val + 1) % 16) : n = peer false c := Fin.ext h
theorem dev_prev {c n : Dev nD} (h : n.val = (c.val + 15) % 16) : n = peer true c := Fin.ext h

theorem dev1_eq (c : Dev nD) : (⟨k0_dev1 c, k0_dev1_lt c⟩ : Dev nD) = peer true c := dev_prev (k0_dev1_eq c)
theorem dev2_eq (c : Dev nD) : (⟨k0_dev2 c, k0_dev2_lt c⟩ : Dev nD) = peer false c := dev_next (k0_dev2_eq c)
theorem dev3_eq (c : Dev nD) : (⟨k0_dev3 c, k0_dev3_lt c⟩ : Dev nD) = peer false c := dev_next (k0_dev3_eq c)
theorem dev4_eq (c : Dev nD) : (⟨k0_dev4 c, k0_dev4_lt c⟩ : Dev nD) = peer true c := dev_prev (k0_dev4_eq c)
theorem dev5_eq (c : Dev nD) : (⟨k0_dev5 c, k0_dev5_lt c⟩ : Dev nD) = peer false c := dev_next (k0_dev5_eq c)
theorem dev6_eq (c : Dev nD) : (⟨k0_dev6 c, k0_dev6_lt c⟩ : Dev nD) = peer true c := dev_prev (k0_dev6_eq c)

/-! ## The buffer's halves -/

abbrev cM : Memref sig .tc .vmem S17x512x512 .bf16 := Memref.whole cc0_scratch0

/-- Half `s` of slot `j`: the elements of slot `j` whose row lies in the `s`-th 256 rows. -/
def slab (j s : ℕ) : Finset S17x512x512.Idx := Finset.univ.filter fun i => (i 0).val = j ∧ (i 1).val / 256 = s

theorem mem_slab {j s : ℕ} {i : S17x512x512.Idx} : i ∈ slab j s ↔ (i 0).val = j ∧ (i 1).val / 256 = s := by
  unfold slab; rw [Finset.mem_filter]; exact ⟨fun h => h.2, fun h => ⟨Finset.mem_univ _, h⟩⟩

theorem slab_disjoint {j s j' s' : ℕ} (h : j ≠ j' ∨ s ≠ s') : Disjoint (slab j s) (slab j' s') :=
  Finset.disjoint_left.mpr fun i hi hi' => by
    obtain ⟨h1, h2⟩ := mem_slab.mp hi; obtain ⟨h3, h4⟩ := mem_slab.mp hi'
    rcases h with h | h
    · exact h (h1.symm.trans h3)
    · exact h (h2.symm.trans h4)

/-- Slot `j`, both halves. -/
def slot (j : ℕ) : Finset S17x512x512.Idx := Finset.univ.filter fun i => (i 0).val = j

theorem mem_slot {j : ℕ} {i : S17x512x512.Idx} : i ∈ slot j ↔ (i 0).val = j := by
  unfold slot; rw [Finset.mem_filter]; exact ⟨fun h => h.2, fun h => ⟨Finset.mem_univ _, h⟩⟩

theorem slot_eq (j : ℕ) : slot j = slab j 0 ∪ slab j 1 := by
  ext i
  rw [Finset.mem_union, mem_slot, mem_slab, mem_slab]
  have h : (i 1).val < 512 := (i 1).isLt
  constructor
  · intro h0; rcases Nat.lt_or_ge (i 1).val 256 with h1 | h1
    · exact .inl ⟨h0, by omega⟩
    · exact .inr ⟨h0, by omega⟩
  · rintro (h | h) <;> exact h.1

/-- The whole buffer is its seventeen slots. -/
theorem univ_eq : (Finset.univ : Finset S17x512x512.Idx) = (Finset.range 17).biUnion slot := by
  ext i
  simp only [Finset.mem_univ, Finset.mem_biUnion, Finset.mem_range, true_iff]
  exact ⟨(i 0).val, (i 0).isLt, mem_slot.mpr rfl⟩

/-- A half slot as the transfers name it. -/
abbrev slabM (off : Fin 3 → ℕ) (h : ∀ a, off a + S1x256x512.size a ≤ S17x512x512.size a) : Memref sig .tc .vmem S256x512 .bf16 :=
  (cM.slice (Rect.unit (s := S17x512x512) off S1x256x512.size h) (fun _ => rfl)).squeeze S256x512 squeezes_S1x256x512_S256x512

theorem slabM_emb (off : Fin 3 → ℕ) (h) (x : S256x512.Idx) :
    ((((slabM off h).view.emb x : S17x512x512.Idx) 0).val = off 0)
      ∧ ((((slabM off h).view.emb x : S17x512x512.Idx) 1).val = off 1 + (x 0).val)
      ∧ ((((slabM off h).view.emb x : S17x512x512.Idx) 2).val = off 2 + (x 1).val) := by
  have e : Shape.reshapeEquiv (squeezes_S1x256x512_S256x512 : S1x256x512.Squeezes S256x512).numel_eq x = Fin.cons ⟨0, Nat.one_pos⟩ x :=
    Shape.reshapeEquiv_cons_one (d := ![256, 512]) _ x
  have e' : (slabM off h).view.emb x = (Rect.unit (s := S17x512x512) off S1x256x512.size h).emb (Fin.cons ⟨0, Nat.one_pos⟩ x) := by
    show (Rect.unit (s := S17x512x512) off S1x256x512.size h).emb (Shape.reshapeEquiv _ x) = _
    rw [e]
  rw [e']
  refine ⟨?_, ?_, ?_⟩
  · show off 0 + 1 * 0 = _; omega
  · show off 1 + 1 * (x 0).val = _; omega
  · show off 2 + 1 * (x 1).val = _; omega

theorem slabM_set {off : Fin 3 → ℕ} {j s : ℕ} (h) (hoff : off = ![j, 256 * s, 0]) : (slabM off h).view.set = slab j s := by
  subst hoff
  rw [Memref.set_view_squeeze]
  show ((View.whole cc0_scratch0).slice _).set = _
  rw [View.set_slice_whole]
  ext i
  rw [Rect.mem_set_unit, mem_slab]
  have h1 : (i 1).val < 512 := (i 1).isLt
  have h2 : (i 2).val < 512 := (i 2).isLt
  constructor
  · intro hh
    have a0 := hh 0; have a1 := hh 1
    simp only [S1x256x512, Matrix.cons_val_zero, Matrix.cons_val_one] at a0 a1
    omega
  · intro ⟨g0, g1⟩ a
    match a with
    | ⟨0, _⟩ => show j ≤ (i 0).val ∧ (i 0).val < j + 1; omega
    | ⟨1, _⟩ => show 256 * s ≤ (i 1).val ∧ (i 1).val < 256 * s + 256; omega
    | ⟨2, _⟩ => show 0 ≤ (i 2).val ∧ (i 2).val < 0 + 512; omega

/-! ## The buffer's final contents -/

variable {F : FTy → Type} [FloatOps F]

/-- The element of a weights block at row `a` and column `b`. -/
def ix2 (a b : Fin 512) : S512x512.Idx := fun i => match i with
  | ⟨0, _⟩ => a
  | ⟨1, _⟩ => b

/-- The elements of the weights block an element of the communication buffer is in place of: its row and column. -/
def rowCol (i : S17x512x512.Idx) : S512x512.Idx := ix2 (i 1) (i 2)

/-- What device `c`'s communication buffer ends up holding, `w` being the weights each device starts from. -/
def comm (w : Dev nD → S512x512.Idx → Elt F .bf16) (c : Dev nD) : (cc0_scratch0 : Ref sig .tc).ty.Contents (Elt F) :=
  fun i : S17x512x512.Idx => w (owner c (i 0).val) (rowCol i)

theorem comm_of_coords (w : Dev nD → S512x512.Idx → Elt F .bf16) {c c' : Dev nD} {i i' : S17x512x512.Idx}
    (h0 : owner c (i 0).val = owner c' (i' 0).val) (h1 : (i 1).val = (i' 1).val) (h2 : (i 2).val = (i' 2).val) :
    comm w c i = comm w c' i' := by
  show w (owner c (i 0).val) (rowCol i) = w (owner c' (i' 0).val) (rowCol i')
  rw [h0]
  have : rowCol i = rowCol i' := by unfold rowCol; rw [Fin.ext h1, Fin.ext h2]
  rw [this]

/-- A transfer of half `s` of slot `base d + k` lands in the next slot of the neighbour what that slot ends up holding. -/
theorem landed (w : Dev nD → S512x512.Idx → Elt F .bf16) (d : Bool) (c : Dev nD) {k s : ℕ} (hk : k < hops d) {off off' : Fin 3 → ℕ} (h h')
    (hoff : off = ![base d + k, 256 * s, 0]) (hoff' : off' = ![base d + k + 1, 256 * s, 0])
    (fd : (cc0_scratch0 : Ref sig .tc).ty.Contents (Elt F)) :
    ∀ i ∈ (slabM off' h').view.set, (slabM off' h').view.write (Elt F) fd ((slabM off h).view.read (Elt F) (comm w c)) Finset.univ i = comm w (peer d c) i := by
  intro i hi
  obtain ⟨x, -, rfl⟩ := Finset.mem_map.mp hi
  have hw := View.write_emb_of_mem (Val := Elt F) (v := (slabM off' h').view) fd ((slabM off h).view.read (Elt F) (comm w c)) (Finset.mem_univ x)
  refine (show _ = _ from hw).trans ?_
  obtain ⟨a0, a1, a2⟩ := slabM_emb off h x
  obtain ⟨b0, b1, b2⟩ := slabM_emb off' h' x
  show comm w c ((slabM off h).view.emb x) = comm w (peer d c) ((slabM off' h').view.emb x)
  subst hoff hoff'
  refine comm_of_coords w ?_ ?_ ?_
  · rw [a0, b0]; exact (owner_step d c k hk).symm
  · rw [a1, b1]; rfl
  · rw [a2, b2]; rfl

/-- A load of slot `j`, its contents in place: the weights of the slot's owner. -/
def slotVal (w : Dev nD → S512x512.Idx → Elt F .bf16) (e : Dev nD) : FVec F S1x512x512 .bf16 :=
  fun x => w e (ix2 (x 1) (x 2))

theorem read_slot (w : Dev nD → S512x512.Idx → Elt F .bf16) (c : Dev nD) {off : Fin 3 → ℕ} {j : ℕ} (h) (hoff : off = ![j, 0, 0]) :
    (cM.view.readAt (Elt F) (Rect.unit (s := S17x512x512) off S1x512x512.size h).toLoadRect (comm w c) : FVec F S1x512x512 .bf16) = slotVal w (owner c j) := by
  subst hoff
  funext x
  have h0 : (x 0).val < 1 := (x 0).isLt
  show w (owner c (j + 1 * (x 0).val)) _ = w (owner c j) _
  rw [show j + 1 * (x 0).val = j by omega]
  congr 1
  unfold rowCol
  congr 1
  · exact Fin.ext (show 0 + 1 * (x 1).val = (x 1).val by omega)
  · exact Fin.ext (show 0 + 1 * (x 2).val = (x 2).val by omega)

/-- Slot `j`'s elements as a load or a store of the whole slot touches them. -/
theorem slot_set {off : Fin 3 → ℕ} {j : ℕ} (h) (hoff : off = ![j, 0, 0]) :
    cM.view.setOn (Rect.unit (s := S17x512x512) off S1x512x512.size h).toLoadRect.set = slot j := by
  subst hoff
  show (View.whole cc0_scratch0).setOn _ = _
  ext i
  constructor
  · intro hi
    obtain ⟨x, hx, rfl⟩ := Finset.mem_map.mp hi
    have hx' := (Rect.mem_set_unit (s := S17x512x512)).mp hx
    have a0 := hx' 0
    refine mem_slot.mpr ?_
    show (x 0).val = j
    have : j ≤ (x 0).val ∧ (x 0).val < j + 1 := a0
    omega
  · intro hi
    have hi' : (i 0).val = j := mem_slot.mp hi
    have h1 : (i 1).val < 512 := (i 1).isLt
    have h2 : (i 2).val < 512 := (i 2).isLt
    refine Finset.mem_map.mpr ⟨i, (Rect.mem_set_unit (s := S17x512x512)).mpr fun a => ?_, rfl⟩
    match a with
    | ⟨0, _⟩ => show j ≤ (i 0).val ∧ (i 0).val < j + 1; omega
    | ⟨1, _⟩ => show 0 ≤ (i 1).val ∧ (i 1).val < 0 + 512; omega
    | ⟨2, _⟩ => show 0 ≤ (i 2).val ∧ (i 2).val < 0 + 512; omega

/-- A store of the device's own weights `v` over slot `j`, a slot of its own (0 or 9), leaves there what the slot ends up holding, -/
theorem stored_own (w : Dev nD → S512x512.Idx → Elt F .bf16) (c : Dev nD) {j : ℕ} (hj : owner c j = c) (h) (f : (cc0_scratch0 : Ref sig .tc).ty.Contents (Elt F))
    (v : FVec F S1x512x512 .bf16) (hv : ∀ x : S1x512x512.Idx, v x = w c (ix2 (x 1) (x 2))) :
    ∀ i ∈ slot j, (cM.access (Rect.unit (s := S17x512x512) ![j, 0, 0] S1x512x512.size h) : View sig .tc _ _ _).write (Elt F) f v Finset.univ i = comm w c i := by
  intro i hi
  have hi' : (i 0).val = j := mem_slot.mp hi
  have h1 : (i 1).val < 512 := (i 1).isLt
  have h2 : (i 2).val < 512 := (i 2).isLt
  let x : S1x512x512.Idx := fun a => match a with
    | ⟨0, _⟩ => ⟨0, Nat.one_pos⟩
    | ⟨1, _⟩ => i 1
    | ⟨2, _⟩ => i 2
  have hx : (cM.access (Rect.unit (s := S17x512x512) ![j, 0, 0] S1x512x512.size h) : View sig .tc _ _ _).emb x = i := by
    funext a
    match a with
    | ⟨0, _⟩ => exact Fin.ext (show j + 1 * 0 = (i 0).val by omega)
    | ⟨1, _⟩ => exact Fin.ext (show 0 + 1 * (i 1).val = (i 1).val by omega)
    | ⟨2, _⟩ => exact Fin.ext (show 0 + 1 * (i 2).val = (i 2).val by omega)
  have hw := View.write_emb_of_mem (Val := Elt F) (v := (cM.access (Rect.unit (s := S17x512x512) ![j, 0, 0] S1x512x512.size h) : View sig .tc _ _ _)) f v (Finset.mem_univ x)
  rw [hx] at hw
  refine (show _ = _ from hw).trans ?_
  rw [show _ = v x from rfl, hv]
  show _ = w (owner c (i 0).val) (rowCol i)
  rw [hi', hj]; rfl

/-- and leaves another slot alone. -/
theorem stored_other {j j' : ℕ} (hj : j ≠ j') (h) (f : (cc0_scratch0 : Ref sig .tc).ty.Contents (Elt F)) (v : FVec F S1x512x512 .bf16) :
    ∀ i ∈ slot j, (cM.access (Rect.unit (s := S17x512x512) ![j', 0, 0] S1x512x512.size h) : View sig .tc _ _ _).write (Elt F) f v Finset.univ i = f i := by
  intro i hi
  have hi' : (i 0).val = j := mem_slot.mp hi
  refine View.write_of_not_mem (Val := Elt F) (v := (cM.access (Rect.unit (s := S17x512x512) ![j', 0, 0] S1x512x512.size h) : View sig .tc _ _ _)) f v Finset.univ ?_
  intro hm
  obtain ⟨x, -, hx⟩ := Finset.mem_map.mp hm
  have e : ((cM.access (Rect.unit (s := S17x512x512) ![j', 0, 0] S1x512x512.size h) : View sig .tc _ _ _).emb x 0).val = j' := by
    have h0 : (x 0).val < 1 := (x 0).isLt
    show j' + 1 * (x 0).val = j'
    omega
  rw [hx] at e
  exact hj (hi'.symm.trans e)

end Cert.Gather

end
-- ==== Proof.Sched.lean ====
/-
The protocol of the ring all-gather under the rounds library: one round on every cell.

* A device's barrier cell takes a unit from each neighbour. The unit of the neighbour `peer d c` hands `c` the slots
  of that neighbour's buffer that `c`'s transfers in direction `d` are to land in, and that the neighbour has opened
  the receive cells of those transfers.
* A send cell gets back the half share of the half slot its transfer reads; a receive cell gets the half slot the
  neighbour's transfer has written, at the contents it ends up holding.
* Levels: staging and send cells below barrier cells, below the receive cells, which rise with the hop.
-/
module

public import proofs.«01_k».proof.Proof.Comm

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- The runtime's barrier semaphore, and the DMA semaphore of index `q` (the kernel's own are 5 to 64). -/
abbrev barS : Sem sig := (SemArray.scalar (sig.barrier 0 rfl) : Sems sig S_).sem
def dsem (q : ℕ) : DmaSem sig := ⟨q % 65, Nat.mod_lt _ (by decide)⟩

/-- The indices of the send and receive semaphores of transfer `k` of direction `d`, half `s`. -/
def sIx (d : Bool) (k s : ℕ) : ℕ := (if d then 37 else 5) + 2 * k + s
def rIx (d : Bool) (k s : ℕ) : ℕ := (if d then 51 else 21) + 2 * k + s

theorem sIx_lt {d : Bool} {k s : ℕ} (hk : k < hops d) (hs : s < 2) : 5 ≤ sIx d k s ∧ sIx d k s < 65 := by
  cases d <;> simp only [hops, sIx, Bool.false_eq_true, if_false, if_true] at hk ⊢ <;> omega
theorem rIx_lt {d : Bool} {k s : ℕ} (hk : k < hops d) (hs : s < 2) : 5 ≤ rIx d k s ∧ rIx d k s < 65 := by
  cases d <;> simp only [hops, rIx, Bool.false_eq_true, if_false, if_true] at hk ⊢ <;> omega
theorem dsem_val {q : ℕ} (h : q < 65) : (dsem q).val = q := Nat.mod_eq_of_lt h

abbrev barCell (c : Dev nD) : GSem nD τ sig := ((c : Thread nD τ), .reg barS)
abbrev dCell (q : ℕ) (c : Dev nD) : GSem nD τ sig := ((c : Thread nD τ), .dma (dsem q))
abbrev sCell (d : Bool) (k s : ℕ) (c : Dev nD) : GSem nD τ sig := dCell (sIx d k s) c
abbrev rCell (d : Bool) (k s : ℕ) (c : Dev nD) : GSem nD τ sig := dCell (rIx d k s) c

/-- The semaphore an element of one of the kernel's four arrays names. -/
abbrev sem8 (A : DmaSems sig S8x2) (off : Fin 2 → ℕ) (h : ∀ a, off a + S1x1.size a ≤ S8x2.size a) : DmaSem sig :=
  ((A.slice (Rect.unit (s := S8x2) off S1x1.size h)).squeeze S_ squeezes_S1x1_S_).sem
abbrev sem7 (A : DmaSems sig S7x2) (off : Fin 2 → ℕ) (h : ∀ a, off a + S1x1.size a ≤ S7x2.size a) : DmaSem sig :=
  ((A.slice (Rect.unit (s := S7x2) off S1x1.size h)).squeeze S_ squeezes_S1x1_S_).sem

/-- A slice's element at a one-element index: the array's at the slice's offsets. -/
theorem row_pair {d : Fin 2 → ℕ} (hd : d 1 = 2) {off : Fin 2 → ℕ} {k s : ℕ} (hoff : off = ![k, s]) (h : ∀ a, off a + S1x1.size a ≤ d a)
    (j : S1x1.Idx) : ((⟨2, d⟩ : Shape).rowMajor ((Rect.unit (s := ⟨2, d⟩) off S1x1.size h).emb j)).val = 2 * k + s := by
  subst hoff
  have h0 : (j 0).val < 1 := (j 0).isLt
  have h1 : (j 1).val < 1 := (j 1).isLt
  rw [Shape.rowMajor_val_two, hd]
  show (k + 1 * (j 0).val) * 2 + (s + 1 * (j 1).val) = _
  omega

theorem dsem_of_val {q : DmaSem sig} {n : ℕ} (hn : n < 65) (h : q.val = n) : q = dsem n := Fin.ext (h.trans (dsem_val hn).symm)

theorem cw_send_eq {off : Fin 2 → ℕ} {k s : ℕ} (h) (hoff : off = ![k, s]) (hk : k < 8) (hs : s < 2) : sem8 cc0_scratch1 off h = dsem (sIx false k s) :=
  dsem_of_val (sIx_lt (d := false) hk hs).2 ((congrArg (5 + ·) (row_pair (d := ![8, 2]) rfl hoff h _)).trans (Nat.add_assoc _ _ _).symm)
theorem cw_recv_eq {off : Fin 2 → ℕ} {k s : ℕ} (h) (hoff : off = ![k, s]) (hk : k < 8) (hs : s < 2) : sem8 cc0_scratch2 off h = dsem (rIx false k s) :=
  dsem_of_val (rIx_lt (d := false) hk hs).2 ((congrArg (21 + ·) (row_pair (d := ![8, 2]) rfl hoff h _)).trans (Nat.add_assoc _ _ _).symm)
theorem ccw_send_eq {off : Fin 2 → ℕ} {k s : ℕ} (h) (hoff : off = ![k, s]) (hk : k < 7) (hs : s < 2) : sem7 cc0_scratch3 off h = dsem (sIx true k s) :=
  dsem_of_val (sIx_lt (d := true) hk hs).2 ((congrArg (37 + ·) (row_pair (d := ![7, 2]) rfl hoff h _)).trans (Nat.add_assoc _ _ _).symm)
theorem ccw_recv_eq {off : Fin 2 → ℕ} {k s : ℕ} (h) (hoff : off = ![k, s]) (hk : k < 7) (hs : s < 2) : sem7 cc0_scratch4 off h = dsem (rIx true k s) :=
  dsem_of_val (rIx_lt (d := true) hk hs).2 ((congrArg (51 + ·) (row_pair (d := ![7, 2]) rfl hoff h _)).trans (Nat.add_assoc _ _ _).symm)

/-- A half slot's credit. -/
abbrev N : ℕ := (cc0_scratch0 : Ref sig .tc).dmaCredit S256x512 .bf16
theorem N_pos : 0 < N := View.dmaCredit_pos (slabM ![0, 0, 0] (by decide)).view (by decide)

/-! ## Half slots held -/

/-- Half `s` of slot `j` of device `c`'s buffer, held at share `q` and contents `f`. -/
def slabPt (c : Dev nD) (j s : ℕ) (q : PosShare TreeShare) (f : (cc0_scratch0 : Ref sig .tc).ty.Contents (Elt F)) : sProp 𝕄 :=
  ((c : Thread nD τ).loc cc0_scratch0) ↦[slab j s]{q} f

instance slabPt_storable (c : Dev nD) (j s : ℕ) (q) (f) : BI.Storable (upEmb : UEmb _ 𝕄) (slabPt (F := F) c j s q f) := by
  unfold slabPt; infer_instance

/-- The full share of a half slot is its two half shares. -/
theorem slabPt_halves (c : Dev nD) (j s : ℕ) (f) :
    slabPt (F := F) c j s fullShare f ⊣⊢ iprop(slabPt c j s fullShare.left f ∗ slabPt c j s fullShare.right f) :=
  pointsTo_share (PosShare.mem_left_op_right fullShare)

variable (w : Dev nD → S512x512.Idx → Elt F .bf16)

/-! ## The schedule -/

/-- What `peer d c`'s barrier unit hands `c`: the slots `c`'s transfers in direction `d` land in, their receive cells open. -/
def handed (d : Bool) (c : Dev nD) : sProp 𝕄 :=
  bigSep (Finset.range (hops d)) fun k =>
    iprop(((∃ f, slabPt (peer d c) (base d + k + 1) 0 fullShare f) ∗ reached ER (rCell d k 0 (peer d c)) 0)
      ∗ ((∃ f, slabPt (peer d c) (base d + k + 1) 1 fullShare f) ∗ reached ER (rCell d k 1 (peer d c)) 0))

/-- Whether a DMA semaphore is a send semaphore, the half slot it speaks of. -/
def isSend (q : ℕ) : Bool := decide (q < 21) || (decide (37 ≤ q) && decide (q < 51))
def slotOf (q : ℕ) : ℕ := if q < 21 then (q - 5) / 2 else if q < 37 then (q - 21) / 2 + 1 else if q < 51 then 9 + (q - 37) / 2 else 10 + (q - 51) / 2
def halfOf (q : ℕ) : ℕ := (q + 1) % 2

def isBar : SemLoc sig → Bool
  | .reg _ => true
  | .dma _ => false
def dIx : SemLoc sig → ℕ
  | .reg _ => 0
  | .dma q => q.val

theorem isBar_bar : isBar (.reg barS) = true := rfl
theorem isBar_dma (q : DmaSem sig) : isBar (.dma q) = false := rfl

def Rd : Rounds.Schedule (GSem nD τ sig) Bool 𝕄 where
  duties g r := if r = 0 ∧ g.1.2 = .tc then (if isBar g.2 then Finset.univ else if 5 ≤ dIx g.2 then {false} else ∅) else ∅
  unitless _ := False
  amount g _ _ := if isBar g.2 then 1 else N
  payload g _ b := if isBar g.2 then handed b g.1.1
    else slabPt g.1.1 (slotOf (dIx g.2)) (halfOf (dIx g.2)) (if isSend (dIx g.2) then fullShare.left else fullShare) (comm w g.1.1)
  amount_pos g _ _ _ := by
    by_cases h : isBar g.2 = true
    · rw [if_pos h]; exact Nat.one_pos
    · rw [if_neg h]; exact N_pos

instance handed_storable (d : Bool) (c : Dev nD) : BI.Storable (upEmb : UEmb _ 𝕄) (handed (F := F) d c) := by
  unfold handed; infer_instance

instance Rd_payload_storable (g : GSem nD τ sig) (r : ℕ) (b : Bool) : BI.Storable (upEmb : UEmb _ 𝕄) ((Rd (F := F) w).payload g r b) := by
  show BI.Storable upEmb (if isBar g.2 then handed b g.1.1
    else slabPt g.1.1 (slotOf (dIx g.2)) (halfOf (dIx g.2)) (if isSend (dIx g.2) then fullShare.left else fullShare) (comm w g.1.1))
  split <;> infer_instance

theorem duties_bar (c : Dev nD) : (Rd (F := F) w).duties (barCell c) 0 = Finset.univ := by
  dsimp only [Rd]; rw [if_pos ⟨rfl, rfl⟩]; exact if_pos rfl
theorem duties_dma (c : Dev nD) {q : ℕ} (hq : 5 ≤ q ∧ q < 65) : (Rd (F := F) w).duties (dCell q c) 0 = {false} := by
  dsimp only [Rd]; rw [if_pos ⟨rfl, rfl⟩, if_neg (by rw [isBar_dma]; decide)]
  exact if_pos (by show 5 ≤ (dsem q).val; rw [dsem_val hq.2]; exact hq.1)
theorem duties_later (g : GSem nD τ sig) : ∀ r, 1 ≤ r → (Rd (F := F) w).duties g r = ∅ :=
  fun r hr => by dsimp only [Rd]; exact if_neg fun h => by omega

theorem amount_bar (c : Dev nD) (b : Bool) : (Rd (F := F) w).amount (barCell c) 0 b = 1 := by dsimp only [Rd]; exact if_pos rfl
theorem amount_dma (c : Dev nD) (q : ℕ) (b : Bool) : (Rd (F := F) w).amount (dCell q c) 0 b = N := by
  dsimp only [Rd]; exact if_neg (by rw [isBar_dma]; decide)

theorem expect_bar (c : Dev nD) : (Rd (F := F) w).expect (barCell c) 0 = 2 := by
  unfold Schedule.expect Schedule.amountOf
  rw [duties_bar, Finset.sum_congr rfl fun d _ => amount_bar w c d, Finset.sum_const, Finset.card_univ, Fintype.card_bool, smul_eq_mul]
theorem expect_dma (c : Dev nD) {q : ℕ} (hq : 5 ≤ q ∧ q < 65) : (Rd (F := F) w).expect (dCell q c) 0 = N := by
  unfold Schedule.expect Schedule.amountOf; rw [duties_dma w c hq, Finset.sum_singleton, amount_dma]

theorem payload_bar (c : Dev nD) (b : Bool) : (Rd (F := F) w).payload (barCell c) 0 b = handed b c := by dsimp only [Rd]; exact if_pos rfl

theorem payload_dma (c : Dev nD) {q : ℕ} (hq : q < 65) (b : Bool) : (Rd (F := F) w).payload (dCell q c) 0 b
    = slabPt c (slotOf q) (halfOf q) (if isSend q then fullShare.left else fullShare) (comm w c) := by
  dsimp only [Rd]
  rw [if_neg (by rw [isBar_dma]; decide), show dIx (SemLoc.dma (dsem q) : SemLoc sig) = q from dsem_val hq]

theorem payload_send (c : Dev nD) {d : Bool} {k s : ℕ} (hk : k < hops d) (hs : s < 2) (b : Bool) :
    (Rd (F := F) w).payload (sCell d k s c) 0 b = slabPt c (base d + k) s fullShare.left (comm w c) := by
  rw [payload_dma w c (sIx_lt hk hs).2]
  have h1 : slotOf (sIx d k s) = base d + k := by
    cases d <;> simp only [hops, sIx, slotOf, base, Bool.false_eq_true, if_false, if_true] at hk ⊢
    · rw [if_pos (by omega)]; omega
    · rw [if_neg (by omega), if_neg (by omega), if_pos (by omega)]; omega
  have h2 : halfOf (sIx d k s) = s := by
    cases d <;> simp only [sIx, halfOf, Bool.false_eq_true, if_false, if_true] <;> omega
  have h3 : isSend (sIx d k s) = true := by
    cases d <;> simp only [hops, sIx, isSend, Bool.false_eq_true, if_false, if_true, Bool.or_eq_true, Bool.and_eq_true, decide_eq_true_eq] at hk ⊢ <;> omega
  rw [h1, h2, h3, if_pos rfl]

theorem payload_recv (c : Dev nD) {d : Bool} {k s : ℕ} (hk : k < hops d) (hs : s < 2) (b : Bool) :
    (Rd (F := F) w).payload (rCell d k s c) 0 b = slabPt c (base d + k + 1) s fullShare (comm w c) := by
  rw [payload_dma w c (rIx_lt hk hs).2]
  have h1 : slotOf (rIx d k s) = base d + k + 1 := by
    cases d <;> simp only [hops, rIx, slotOf, base, Bool.false_eq_true, if_false, if_true] at hk ⊢
    · rw [if_neg (by omega), if_pos (by omega)]; omega
    · rw [if_neg (by omega), if_neg (by omega), if_neg (by omega)]; omega
  have h2 : halfOf (rIx d k s) = s := by
    cases d <;> simp only [rIx, halfOf, Bool.false_eq_true, if_false, if_true] <;> omega
  have h3 : isSend (rIx d k s) = false := by
    cases d <;> simp only [hops, rIx, isSend, Bool.false_eq_true, if_false, if_true, Bool.or_eq_false_iff, Bool.and_eq_false_iff, decide_eq_false_iff_not] at hk ⊢ <;> omega
  rw [h1, h2, h3, if_neg (by decide)]

theorem rest_bar (c : Dev nD) : bigSep ((Rd (F := F) w).duties (barCell c) 0 \ ∅) (fun b => (Rd (F := F) w).payload (barCell c) 0 b) = iprop(handed false c ∗ handed true c) := by
  rw [Finset.sdiff_empty, duties_bar, bigSep_univ_eq_bigSepL [false, true] (by decide) (by decide), bigSepL_cons_cons, bigSepL_singleton,
    payload_bar, payload_bar]
  rfl
theorem rest_dma (c : Dev nD) {q : ℕ} (hq : 5 ≤ q ∧ q < 65) :
    bigSep ((Rd (F := F) w).duties (dCell q c) 0 \ ∅) (fun b => (Rd (F := F) w).payload (dCell q c) 0 b) = (Rd (F := F) w).payload (dCell q c) 0 false := by
  rw [Finset.sdiff_empty, duties_dma w c hq, bigSep_singleton]

/-! ## The dues and the levels -/

/-- The transfers still to be made: direction `d`'s from `if d then b else a` on, both halves. -/
def pend (a b : ℕ) : Finset (Bool × ℕ × ℕ) :=
  ((Finset.univ : Finset Bool) ×ˢ (Finset.range 8 ×ˢ Finset.range 2)).filter fun x => (if x.1 then b else a) ≤ x.2.1 ∧ x.2.1 < hops x.1

theorem mem_pend {a b : ℕ} {d : Bool} {k s : ℕ} : (d, k, s) ∈ pend a b ↔ (if d then b else a) ≤ k ∧ k < hops d ∧ s < 2 := by
  unfold pend
  simp only [Finset.mem_filter, Finset.mem_product, Finset.mem_univ, Finset.mem_range, true_and]
  cases d <;> simp only [hops, Bool.false_eq_true, if_false, if_true] <;> omega

/-- What device `c` owes the receive cells of the transfers of `P`. -/
def owe (P : Finset (Bool × ℕ × ℕ)) (c : Dev nD) : CellTallies nD τ sig Unit :=
  ∑ x ∈ P, tallyAt (rCell x.1 x.2.1 x.2.2 (peer x.1 c)) () N

theorem owe_erase {P : Finset (Bool × ℕ × ℕ)} {x : Bool × ℕ × ℕ} (hx : x ∈ P) (c : Dev nD) :
    owe P c = owe (P.erase x) c + tallyAt (rCell x.1 x.2.1 x.2.2 (peer x.1 c)) () N :=
  (Finset.sum_erase_add P _ hx).symm

/-- What device `c` owes at launch: its second and first barrier signal last. -/
def O₁ (c : Dev nD) : CellTallies nD τ sig Unit := owe (pend 0 0) c + tallyAt (barCell (peer false c)) () 1
def O₀ (c : Dev nD) : CellTallies nD τ sig Unit := O₁ c + tallyAt (barCell (peer true c)) () 1

def L (g : GSem nD τ sig) : Finset Unit := if g.1.2 = .tc then {()} else ∅
/-- The level of a DMA semaphore. -/
def dlev (q : ℕ) : ℕ := if q < 21 then 0 else if q < 37 then 2 + (q - 21) / 2 else if q < 51 then 0 else 2 + (q - 51) / 2
def lv (g : GSem nD τ sig) (_ : Unit) : ℕ := if isBar g.2 then 1 else dlev (dIx g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (c : Dev nD) {q : ℕ} (hq : q < 65) : lv (dCell q c) () = dlev q := by
  unfold lv; rw [if_neg (by rw [isBar_dma]; decide), show dIx (SemLoc.dma (dsem q) : SemLoc sig) = q from dsem_val hq]
theorem lv_send (c : Dev nD) {d : Bool} {k s : ℕ} (hk : k < hops d) (hs : s < 2) : lv (sCell d k s c) () = 0 := by
  rw [lv_dma c (sIx_lt hk hs).2]; unfold dlev
  cases d <;> simp only [hops, sIx, Bool.false_eq_true, if_false, if_true] at hk ⊢
  · exact if_pos (by omega)
  · rw [if_neg (by omega), if_neg (by omega)]; exact if_pos (by omega)
theorem lv_recv (c : Dev nD) {d : Bool} {k s : ℕ} (hk : k < hops d) (hs : s < 2) : lv (rCell d k s c) () = 2 + k := by
  rw [lv_dma c (rIx_lt hk hs).2]; unfold dlev
  cases d <;> simp only [hops, rIx, Bool.false_eq_true, if_false, if_true] at hk ⊢
  · rw [if_neg (by omega), if_pos (by omega)]; omega
  · rw [if_neg (by omega), if_neg (by omega), if_neg (by omega)]; omega

theorem owe_pos {P : Finset (Bool × ℕ × ℕ)} {c : Dev nD} {g : GSem nD τ sig} {u : Unit} (h : 0 < owe P c g u) :
    ∃ d k s, (d, k, s) ∈ P ∧ g = rCell d k s (peer d c) := by
  unfold owe at h
  rw [Finset.sum_apply, Finsupp.finsetSum_apply] at h
  obtain ⟨⟨d, k, s⟩, hx, hp⟩ := Finset.exists_ne_zero_of_sum_ne_zero (Nat.pos_iff_ne_zero.mp h)
  refine ⟨d, k, s, hx, ?_⟩
  rw [tallyAt_apply] at hp
  by_contra hn
  exact hp (if_neg fun h' => hn h'.1)

theorem O₀_pos {c : Dev nD} {g : GSem nD τ sig} {u : Unit} (h : 0 < O₀ c g u) :
    (∃ d k s, (d, k, s) ∈ pend 0 0 ∧ g = rCell d k s (peer d c)) ∨ ∃ d, g = barCell (peer d c) := by
  unfold O₀ O₁ at h
  rw [Pi.add_apply, Finsupp.add_apply, Pi.add_apply, Finsupp.add_apply, tallyAt_apply, tallyAt_apply] at h
  by_contra hn; rw [not_or] at hn
  obtain ⟨h1, h2⟩ := hn
  rw [if_neg (fun h' => h2 ⟨false, h'.1⟩), if_neg (fun h' => h2 ⟨true, h'.1⟩)] at h
  simp only [Nat.add_zero] at h
  exact h1 (owe_pos h)

/-- A device may wait on a cell of its own below every receive cell it owes. -/
theorem mayWait_owe (c : Dev nD) (sm : SemLoc sig) {P : Finset (Bool × ℕ × ℕ)} {ℓ : ℕ} (hℓ : lv ((c : Thread nD τ), sm) () ≤ ℓ)
    (hP : ∀ d k s, (d, k, s) ∈ P → k < hops d ∧ s < 2 ∧ ℓ < 2 + k) :
    (levAts L lv : sProp 𝕄) ⊢ MayWait (c : Thread nD τ) sm () (owe P c) :=
  MayOwe.of_cut (L := L) (lev := lv) ℓ (fun p hp => by rw [Finset.mem_singleton.mp hp, L_tc]; exact Finset.mem_singleton_self _)
    (fun g u hg => by obtain ⟨d, k, s, -, rfl⟩ := owe_pos hg; rw [L_tc]; exact Finset.mem_singleton_self _)
    (fun p hp => by rw [Finset.mem_singleton.mp hp]; exact hℓ)
    (fun g u hg => by
      obtain ⟨d, k, s, hm, rfl⟩ := owe_pos hg
      obtain ⟨hk, hs, hl⟩ := hP d k s hm
      show ℓ < lv (rCell d k s (peer d c)) ()
      rw [lv_recv _ hk hs]; exact hl)

/-- A device may wait on a staging cell owing everything the launch dealt it, or nothing. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, k, s, -, rfl⟩ | ⟨d, rfl⟩ <;> (rw [L_tc]; exact Finset.mem_singleton_self _))
      (fun p hp => by
        rw [Finset.mem_singleton.mp hp]
        show dlev q.val ≤ 0
        unfold dlev; rw [if_pos (by omega)])
      (fun g u hg => by
        rcases O₀_pos hg with ⟨d, k, s, hm, rfl⟩ | ⟨d, rfl⟩
        · obtain ⟨-, hk, hs⟩ := mem_pend.mp hm
          show 0 < lv (rCell d k s (peer d c)) ()
          rw [lv_recv _ hk hs]; omega
        · show 0 < lv (barCell (peer d c)) ()
          rw [lv_bar]; exact Nat.one_pos)
  · rw [MayWait_zero]; iintro -; iempintro

end Cert.Gather

end
-- ==== Proof.Rules.lean ====
/-
The rules of one half-slot transfer: what a device holds of it before it is started, while it is in flight and after
both its waits, and the steps between.
-/
module

public import proofs.«01_k».proof.Proof.Sched

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S512x512.Idx → Elt F .bf16) (κ : GSem nD τ sig → ℕ)

/-- A member of a family. -/
theorem bigSep_take {I : Type} [DecidableEq I] {s : Finset I} {i : I} (h : i ∈ s) {Φ : I → sProp 𝕄} : (bigSep s Φ : sProp 𝕄) ⊢ Φ i := bigSep_elim h

/-- Every cell's invariant, and the levels. -/
def invs : sProp 𝕄 :=
  iprop((bigSep Finset.univ fun c : Dev nD => cellInv ER (Rd w) (κ (barCell c)) (barCell c))
    ∗ (bigSep Finset.univ fun c : Dev nD => bigSep (Finset.Ico 5 65) fun q => cellInv ER (Rd w) (κ (dCell q c)) (dCell q c))
    ∗ levAts L lv)

instance invs_persistent : BI.Persistent (invs (F := F) w κ) := by unfold invs; infer_instance

theorem invs_bar (c : Dev nD) : invs (F := F) w κ ⊢ cellInv ER (Rd w) (κ (barCell c)) (barCell c) := by
  unfold invs; iintro ⟨#H, -, -⟩
  iapply (bigSep_take (Finset.mem_univ c) (Φ := fun c : Dev nD => cellInv ER (Rd (F := F) w) (κ (barCell c)) (barCell c))); iexact H
theorem invs_dma (c : Dev nD) {q : ℕ} (hq : 5 ≤ q ∧ q < 65) : invs (F := F) w κ ⊢ cellInv ER (Rd w) (κ (dCell q c)) (dCell q c) := by
  unfold invs; iintro ⟨-, #H, -⟩
  ihave #H1 := (bigSep_take (Finset.mem_univ c) (Φ := fun c : Dev nD => bigSep (Finset.Ico 5 65) fun q => cellInv ER (Rd (F := F) w) (κ (dCell q c)) (dCell q c))) $$ H
  iapply (bigSep_take (Finset.mem_Ico.mpr hq) (Φ := fun q => cellInv ER (Rd (F := F) w) (κ (dCell q c)) (dCell q c))); iexact H1
theorem invs_lev : invs (F := F) w κ ⊢ levAts L lv := by
  unfold invs; iintro ⟨-, -, #H⟩; iexact H

/-! ## A transfer's resources -/

/-- Half `s` of transfer `k` of direction `d`, not yet started: the duties of its two cells, the half slot of the
    neighbour it lands in, and the owner's places at its own two cells with the credit its receive cell will be paid. -/
def Fut (d : Bool) (k s : ℕ) (c : Dev nD) : sProp 𝕄 :=
  iprop(dutyTok ER (sCell d k s c) 0 false ∗ dutyTok ER (rCell d k s (peer d c)) 0 false
    ∗ (∃ f, slabPt (peer d c) (base d + k + 1) s fullShare f) ∗ reached ER (sCell d k s c) 0 ∗ reached ER (rCell d k s (peer d c)) 0
    ∗ atPos ER (sCell d k s c) 0 ∅ 0 ∗ atPos ER (rCell d k s c) 0 ∅ 0 ∗ cred (tallyAt (rCell d k s c) () N))

/-- In flight: to be waited for at both cells. -/
def Act (d : Bool) (k s : ℕ) (c : Dev nD) : sProp 𝕄 :=
  iprop(cred (tallyAt (sCell d k s c) () N) ∗ atPos ER (sCell d k s c) 0 ∅ 0
    ∗ cred (tallyAt (rCell d k s c) () N) ∗ atPos ER (rCell d k s c) 0 ∅ 0)

/-- Waited for: both cells past their round, the half share of what it read back. -/
def Done (d : Bool) (k s : ℕ) (c : Dev nD) : sProp 𝕄 :=
  iprop(atPos ER (sCell d k s c) 1 ∅ 0 ∗ atPos ER (rCell d k s c) 1 ∅ 0 ∗ slabPt c (base d + k) s fullShare.left (comm w c))

/-- A transfer there may not be: past the direction's last there is nothing to start, and the half slot stays. -/
def FutO (d : Bool) (k s : ℕ) (c : Dev nD) : sProp 𝕄 := if k < hops d then Fut d k s c else iprop(emp)
def ActO (d : Bool) (k s : ℕ) (c : Dev nD) : sProp 𝕄 := if k < hops d then Act d k s c else slabPt c (base d + k) s fullShare.left (comm w c)

theorem FutO_pos {d : Bool} {k s : ℕ} {c : Dev nD} (h : k < hops d) : FutO (F := F) d k s c = Fut d k s c := if_pos h
theorem FutO_neg {d : Bool} {k s : ℕ} {c : Dev nD} (h : ¬k < hops d) : FutO (F := F) d k s c = iprop(emp) := if_neg h
theorem ActO_pos {d : Bool} {k s : ℕ} {c : Dev nD} (h : k < hops d) : ActO w d k s c = Act (F := F) d k s c := if_pos h
theorem ActO_neg {d : Bool} {k s : ℕ} {c : Dev nD} (h : ¬k < hops d) : ActO w d k s c = slabPt c (base d + k) s fullShare.left (comm w c) := if_neg h

/-! ## The steps -/

/-- Starting a transfer: it takes the left half share of the half slot it reads, and pays the neighbour's due. -/
theorem send_step (c n : Dev nD) {d : Bool} (hn : n = peer d c) {k s : ℕ} (hk : k < hops d) (hs : s < 2) {off off' : Fin 3 → ℕ} (h) (h')
    (hoff : off = ![base d + k, 256 * s, 0]) (hoff' : off' = ![base d + k + 1, 256 * s, 0])
    {qS qR : DmaSem sig} (hqS : qS = dsem (sIx d k s)) (hqR : qR = dsem (rIx d k s))
    {hsc : (slabM off' h' : Memref sig (Dev.tc n : Thread nD τ).2.kind .vmem S256x512 .bf16).view.ref.isScScratch = false}
    {hsrc : (slabM off h).view.WordExact} {hdst : (slabM off' h').view.WordExact}
    {hsem : DmaTarget.Typed .vmem (.dma qR) (.remote (Dev.tc n : Thread nD τ) (slabM off' h' : Memref sig .tc .vmem S256x512 .bf16) (.dma qS) hsc)}
    {α : Type} {Q : α → sProp 𝕄} {k' : PUnit → Prog (TpuEff nD τ sig (Elt F) Λ₀ .tc) α}
    {P : Finset (Bool × ℕ × ℕ)} (hP : (d, k, s) ∈ P) (W : Waits sig Unit) :
    iprop(invs w κ ∗ Fut d k s c ∗ slabPt c (base d + k) s fullShare.left (comm w c) ∗ owes (c : Thread nD τ) (owe P c) W)
      ⊢ iprop(((Act d k s c ∗ owes (c : Thread nD τ) (owe (P.erase (d, k, s)) c) W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (slabM off h) (.remote (Dev.tc n : Thread nD τ) (slabM off' h') (.dma qS) hsc) (.dma qR) hsrc hdst hsem) k') Q) := by
  subst hn hqS hqR
  unfold Fut Act slabPt
  iintro ⟨#HI, ⟨HtS, HtR, ⟨%fn, Hn⟩, #HrS, #HrR, HaS, HaR, HcR⟩, Hsrc, HO⟩ Hk
  ihave #HIS := (invs_dma w κ c (sIx_lt hk hs)) $$ HI
  ihave #HIR := (invs_dma w κ (peer d c) (rIx_lt hk hs)) $$ HI
  have hland := landed w d c hk h h' hoff hoff' fn
  have e1 : (((slabM off h).view.loc (c : Thread nD τ) ↦[(slabM off h).view.set]{fullShare.left} (comm w c)) : sProp 𝕄)
      = (((c : Thread nD τ).loc cc0_scratch0) ↦[slab (base d + k) s]{fullShare.left} (comm w c)) := by rw [slabM_set h hoff]
  have e2 (f) : (((slabM off' h').view.loc (peer d c : Thread nD τ) ↦[(slabM off' h').view.set]{fullShare} f) : sProp 𝕄)
      = (((peer d c : Thread nD τ).loc cc0_scratch0) ↦[slab (base d + k + 1) s]{fullShare} f) := by rw [slabM_set h' hoff']
  iapply (Rounds.wp_send_pointsTo 𝒱₀ ER (Rd w) (c : Thread nD τ) none (c' := (peer d c : Thread nD τ)) (src := slabM off h) (dst := slabM off' h')
      (κ₁ := κ (sCell d k s c)) (κ₂ := κ (rCell d k s (peer d c)))
      (r₁ := 0) (r₂ := 0) (d₁ := false) (d₂ := false) (fs := comm w c) (fd := fn) (q := fullShare.left)
      (by rw [duties_dma w c (sIx_lt hk hs)]; exact Finset.mem_singleton_self _)
      (by rw [duties_dma w (peer d c) (rIx_lt hk hs)]; exact Finset.mem_singleton_self _)
      () () N rfl (amount_dma w c _ false) (amount_dma w (peer d c) _ false) (owe (P.erase (d, k, s)) c) (owe_erase hP c) (W := W)
      (by rw [payload_send w c hk hs, e1]; exact BI.Entails.refl _)
      (by rw [payload_recv w (peer d c) hk hs, pointsTo_congr hland, e2]; exact BI.Entails.refl _)) $$ [HtS HtR Hn Hsrc HO]
  · isplitr; · iexact HIS
    isplitr; · iexact HIR
    isplitl [Hsrc]; · iapply (Entails.of_eq e1.symm); iexact Hsrc
    isplitl [Hn]; · iapply (Entails.of_eq (e2 fn).symm); iexact Hn
    isplitl [HO]; · iexact HO
    isplitl [HtS]; · iexact HtS
    isplitr; · iexact HrS
    isplitl [HtR]; · iexact HtR
    iexact HrR
  iintro ⟨HcS, HO⟩
  iapply Hk
  isplitr [HO]; swap; · iexact HO
  isplitl [HcS]; · iexact HcS
  isplitl [HaS]; · iexact HaS
  isplitl [HcR]; · iexact HcR
  iexact HaR

/-- A wait on one of the kernel's own DMA cells, owing receive cells above it. -/
theorem wait_step (c : Dev nD) {qn : ℕ} (hqn : 5 ≤ qn ∧ qn < 65) {q : DmaSem sig} (hq : q = dsem qn)
    {src : Memref sig .tc .vmem S256x512 .bf16} {off : Fin 3 → ℕ} {h} {hsrc : src.view.WordExact} {hdst : (slabM off h).view.WordExact}
    {α : Type} {Q : α → sProp 𝕄} {k' : PUnit → Prog (TpuEff nD τ sig (Elt F) Λ₀ .tc) α}
    {P : Finset (Bool × ℕ × ℕ)} (hP : ∀ d k s, (d, k, s) ∈ P → k < hops d ∧ s < 2 ∧ dlev qn < 2 + k) (W : Waits sig Unit) :
    iprop(invs w κ ∗ cred (tallyAt (dCell qn c) () N) ∗ atPos ER (dCell qn c) 0 ∅ 0 ∗ owes (c : Thread nD τ) (owe P c) W)
      ⊢ iprop((((Rd w).payload (dCell qn c) 0 false ∗ atPos ER (dCell qn c) 1 ∅ 0 ∗ (∃ W', owes (c : Thread nD τ) (owe P c) W'))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src (slabM off h) hsrc hdst) k') Q) := by
  subst hq
  iintro ⟨#HI, Hc, Hat, HO⟩ Hk
  ihave #HIq := (invs_dma w κ c hqn) $$ HI
  ihave #Hlev := (invs_lev w κ) $$ HI
  iapply (Rounds.wp_wait_rest_token 𝒱₀ ER (Rd w) (c : Thread nD τ) none (κ := κ (dCell qn c))
      (wpE_waitDma2_eq 𝒱₀ (c : Thread nD τ) none Set.univ) (Set.mem_univ _) () (O := owe P c) (W := W) (R := 0) (m := 0) (T := ∅)
      (by rw [Nat.zero_add, expect_dma w c hqn])) $$ [Hc HO Hat]
  · isplitr; · iexact HIq
    isplitl [Hc]; · iexact Hc
    isplitl [HO]; · iexact HO
    isplitr; · iapply (mayWait_owe c (.dma (dsem qn)) (ℓ := dlev qn) (by rw [lv_dma c hqn.2]) hP); iexact Hlev
    iexact Hat
  iintro ⟨HO, Hat, -, Hpay⟩
  iapply Hk
  isplitl [Hpay]; · iapply (Entails.of_eq (rest_dma w c hqn)); iexact Hpay
  isplitl [Hat]; · iexact Hat
  iexists _; iexact HO

/-- The two waits of one half of a transfer in flight. -/
theorem wait_pair (c : Dev nD) {d : Bool} {k s : ℕ} (hk : k < hops d) (hs : s < 2) {off off' : Fin 3 → ℕ} {h} {h'}
    {qS qR : DmaSem sig} (hqS : qS = dsem (sIx d k s)) (hqR : qR = dsem (rIx d k s))
    {src src' : Memref sig .tc .vmem S256x512 .bf16} {hsrc : src.view.WordExact} {hdst : (slabM off h).view.WordExact}
    {hsrc' : src'.view.WordExact} {hdst' : (slabM off' h').view.WordExact}
    {α : Type} {Q : α → sProp 𝕄} {k' : PUnit → Prog (TpuEff nD τ sig (Elt F) Λ₀ .tc) α}
    {P : Finset (Bool × ℕ × ℕ)} (hP : ∀ d' j t, (d', j, t) ∈ P → j < hops d' ∧ t < 2 ∧ k < j) (W : Waits sig Unit) :
    iprop(invs w κ ∗ Act d k s c ∗ owes (c : Thread nD τ) (owe P c) W)
      ⊢ iprop(((Done w d k s c ∗ slabPt c (base d + k + 1) s fullShare.left (comm w c) ∗ slabPt c (base d + k + 1) s fullShare.right (comm w c)
            ∗ (∃ W', owes (c : Thread nD τ) (owe P c) W'))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 qS src (slabM off h) hsrc hdst) fun _ => .op (.waitDma2 qR src' (slabM off' h') hsrc' hdst') k') Q) := by
  have lS : dlev (sIx d k s) = 0 := by rw [← lv_dma c (sIx_lt hk hs).2, lv_send c hk hs]
  have lR : dlev (rIx d k s) = 2 + k := by rw [← lv_dma c (rIx_lt hk hs).2, lv_recv c hk hs]
  unfold Act Done
  iintro ⟨#HI, ⟨HcS, HaS, HcR, HaR⟩, HO⟩ Hk
  iapply (wait_step w κ c (sIx_lt hk hs) hqS (P := P) (fun d' j t hm => by obtain ⟨h1, h2, h3⟩ := hP d' j t hm; exact ⟨h1, h2, by omega⟩) W) $$ [HcS HaS HO]
  · isplitr; · iexact HI
    isplitl [HcS]; · iexact HcS
    isplitl [HaS]; · iexact HaS
    iexact HO
  iintro ⟨Hp1, HaS, ⟨%W', HO⟩⟩
  iapply (wait_step w κ c (rIx_lt hk hs) hqR (P := P) (fun d' j t hm => by obtain ⟨h1, h2, h3⟩ := hP d' j t hm; exact ⟨h1, h2, by omega⟩) W') $$ [HcR HaR HO]
  · isplitr; · iexact HI
    isplitl [HcR]; · iexact HcR
    isplitl [HaR]; · iexact HaR
    iexact HO
  iintro ⟨Hp2, HaR, HO⟩
  iapply Hk
  ihave Hp1' := (Entails.of_eq (payload_send w c hk hs false)) $$ Hp1
  ihave Hp2' := (Entails.of_eq (payload_recv w c hk hs false)) $$ Hp2
  ihave Hh := (slabPt_halves c (base d + k + 1) s (comm w c)).1 $$ Hp2'
  icases Hh with ⟨HL, HR⟩
  isplitl [HaS HaR Hp1']
  · isplitl [HaS]; · iexact HaS
    isplitl [HaR]; · iexact HaR
    iexact Hp1'
  isplitl [HL]; · iexact HL
  isplitl [HR]; · iexact HR
  iexact HO

/-- Starting a transfer if there is one: the branch the kernel takes is the one of the direction's number of transfers. -/
theorem cond_send (c : Dev nD) {d : Bool} {k s : ℕ} {cond : Prop} [Decidable cond] (hc : cond ↔ k < hops d) {P : Finset (Bool × ℕ × ℕ)}
    (hs : s < 2) (hP : k < hops d → (d, k, s) ∈ P) (hPn : ¬k < hops d → (d, k, s) ∉ P) (W : Waits sig Unit)
    {α : Type} {A : cond → Prog (TpuEff nD τ sig (Elt F) Λ₀ .tc) α} {k' : Prog (TpuEff nD τ sig (Elt F) Λ₀ .tc) α} {Q : α → sProp 𝕄}
    (hA : ∀ hcond : cond, k < hops d → (d, k, s) ∈ P → iprop(invs w κ ∗ Fut d k s c ∗ slabPt c (base d + k) s fullShare.left (comm w c) ∗ owes (c : Thread nD τ) (owe P c) W)
      ⊢ iprop(((Act d k s c ∗ owes (c : Thread nD τ) (owe (P.erase (d, k, s)) c) W)
            -∗ wp frame (wpE (defs₀ (F := F)) 𝒱₀ (c : Thread nD τ) none) Set.univ k' Q)
          -∗ wp frame (wpE (defs₀ (F := F)) 𝒱₀ (c : Thread nD τ) none) Set.univ (A hcond) Q)) :
    iprop(invs w κ ∗ FutO d k s c ∗ slabPt c (base d + k) s fullShare.left (comm w c) ∗ owes (c : Thread nD τ) (owe P c) W)
      ⊢ iprop(((ActO w d k s c ∗ owes (c : Thread nD τ) (owe (P.erase (d, k, s)) c) W)
            -∗ wp frame (wpE (defs₀ (F := F)) 𝒱₀ (c : Thread nD τ) none) Set.univ k' Q)
          -∗ wp frame (wpE (defs₀ (F := F)) 𝒱₀ (c : Thread nD τ) none) Set.univ (if hcond : cond then A hcond else k') Q) := by
  by_cases hh : cond
  · have hk := hc.mp hh
    rw [FutO_pos hk, ActO_pos w hk, dif_pos hh]
    exact hA hh hk (hP hk)
  · have hk : ¬k < hops d := fun h => hh (hc.mpr h)
    rw [FutO_neg hk, ActO_neg w hk, dif_neg hh, Finset.erase_eq_of_notMem (hPn hk)]
    iintro ⟨-, -, Hs, HO⟩ Hk
    iapply Hk
    isplitl [Hs]; · iexact Hs
    iexact HO

end Cert.Gather

end
-- ==== Proof.Chunk.lean ====
/-
One chunk's accumulation: the two rows of the result after the weights `W` of one device, with its part `k`, `v` of the
keys and values, are added in. The kernel holds the same computation three times over, cut into parts at different
places; the three are one function.
-/
module

public import proofs.«01_k».proof.Proof.Comm

@[expose] public section

set_option maxRecDepth 16384

noncomputable section

namespace Cert.Gather

open Cert.KernelIdeal Cert.KernelIdeal.Gen
open Idealize.ShloMosaic

variable {F : FTy → Type} [FloatOps F]

variable (m : IVec S128x128 1) (x : FVec F S2x128x512 .bf16) (W : FVec F S1x512x512 .bf16) (k v : FVec F S4x2x128x64 .bf16) (r : FVec F S1x128x512 .f32)

/-- Row 0 of the result, `r` before. -/
def upd0 : FVec F S1x128x512 .f32 :=
  k0_pay16 m (k0_pay6 W) (k0_pay10 m x W k v) (k0_pay11 m (k0_pay7 k) (k0_pay8 v) (k0_pay9 x W)) (k0_pay12 m (k0_pay7 k) (k0_pay8 v) (k0_pay9 x W))
    (k0_pay13 (k0_pay9 x W)) (k0_pay14 (k0_pay7 k)) (k0_pay15 (k0_pay8 v)) (constant S128x128 .f32 0x00000000#32) r

/-- Row 1. -/
def upd1 : FVec F S1x128x512 .f32 :=
  k0_pay3 m (k0_pay6 W) (k0_pay7 k) (k0_pay8 v) (k0_pay17 x (k0_pay5 W))
    (k0_pay21 (k0_pay18 (k0_pay8 v)) (k0_pay19 m x (k0_pay5 W) (k0_pay7 k)) (k0_pay20 m x (k0_pay5 W) (k0_pay7 k)))
    (k0_pay22 m (k0_pay7 k) (k0_pay8 v) (k0_pay17 x (k0_pay5 W))) (k0_pay23 (k0_pay8 v)) (k0_pay24 m (k0_pay7 k) (k0_pay17 x (k0_pay5 W)))
    (k0_pay25 m (k0_pay7 k) (k0_pay17 x (k0_pay5 W))) r

theorem upd0_trip : k0_pay36 (k0_pay28 W) (k0_pay34 m (k0_pay29 k) (k0_pay30 v) (k0_pay31 x (k0_pay27 W))
      (k0_pay32 m x (k0_pay27 W) (k0_pay29 k) v) (k0_pay33 m x (k0_pay27 W) (k0_pay29 k) v)) (k0_pay35 r) = upd0 m x W k v r := rfl

theorem upd1_trip : k0_pay2 (k0_pay28 W) (k0_pay38 m x (k0_pay27 W) (k0_pay29 k) (k0_pay30 v))
      (k0_pay42 (k0_pay39 (k0_pay30 v)) (k0_pay40 m x (k0_pay27 W) (k0_pay29 k)) (k0_pay41 m x (k0_pay27 W) (k0_pay29 k)))
      (k0_pay43 m (k0_pay29 k) (k0_pay30 v) (k0_pay37 x (k0_pay27 W))) (k0_pay44 (k0_pay30 v))
      (k0_pay45 m (k0_pay29 k) (k0_pay37 x (k0_pay27 W))) (k0_pay46 m (k0_pay29 k) (k0_pay37 x (k0_pay27 W))) r = upd1 m x W k v r := rfl

theorem upd0_start : k0_pay69 m (k0_pay57 W) (k0_pay61 m x W k v) (k0_pay65 m (k0_pay62 x W) (k0_pay63 k) (k0_pay64 v))
      (k0_pay66 m (k0_pay58 k) (k0_pay59 v) (k0_pay60 x W)) (k0_pay67 (k0_pay59 v)) (k0_pay68 (k0_pay58 k) (k0_pay60 x W))
      (Scalar.ofBits .f32 0xCE6E6B28#32) r = upd0 m x W k v r := rfl

theorem upd1_start : k0_pay1 m (k0_pay57 W) (k0_pay58 k) (k0_pay59 v)
      (k0_pay74 (k0_pay71 (k0_pay59 v)) (k0_pay72 m x (k0_pay56 W) (k0_pay58 k)) (k0_pay73 m x (k0_pay56 W) (k0_pay58 k)))
      (k0_pay75 m (k0_pay58 k) (k0_pay59 v) (k0_pay70 x (k0_pay56 W))) (k0_pay76 m (k0_pay58 k) (k0_pay59 v) (k0_pay70 x (k0_pay56 W)))
      (k0_pay77 (k0_pay70 x (k0_pay56 W))) r = upd1 m x W k v r := rfl

end Cert.Gather

end
-- ==== Proof.Trip.lean ====
/-
One trip of the kernel's loop: the waits of the transfers in flight, the next transfers started, and the weights that
have arrived accumulated into the result.
-/
module

public import proofs.«01_k».proof.Proof.Rules
public import proofs.«01_k».proof.Proof.Chunk

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

abbrev oM : Memref sig .tc .vmem S2x128x512 .f32 := Memref.whole cc0_stg4_0
abbrev kM : Memref sig .tc .vmem S64x2x128x64 .bf16 := Memref.whole cc0_stg2_0
abbrev vM : Memref sig .tc .vmem S64x2x128x64 .bf16 := Memref.whole cc0_stg3_0

abbrev row0 : Rect S2x128x512 := Rect.unit (s := S2x128x512) ![0, 0, 0] S1x128x512.size inb_S2x128x512_S1x128x512_0_0_0
abbrev row1 : Rect S2x128x512 := Rect.unit (s := S2x128x512) ![1, 0, 0] S1x128x512.size inb_S2x128x512_S1x128x512_1_0_0

theorem heads_inb (e : Dev nD) : ∀ a, (![4 * e.val, 0, 0, 0] : Fin 4 → ℕ) a + S4x2x128x64.size a ≤ S64x2x128x64.size a := by
  revert e; decide

/-- The four heads of device `e`, out of all sixty-four. -/
def heads (e : Dev nD) (f : S64x2x128x64.Idx → Elt F .bf16) : FVec F S4x2x128x64 .bf16 :=
  kM.view.readAt (Elt F) (Rect.unit (s := S64x2x128x64) ![4 * e.val, 0, 0, 0] S4x2x128x64.size (heads_inb e)).toLoadRect f

theorem heads_of {off : Fin 4 → ℕ} {e : Dev nD} (h) (hoff : off = ![4 * e.val, 0, 0, 0]) (f : S64x2x128x64.Idx → Elt F .bf16) :
    (kM.view.readAt (Elt F) (Rect.unit (s := S64x2x128x64) off S4x2x128x64.size h).toLoadRect f : FVec F S4x2x128x64 .bf16) = heads e f := by
  subst hoff; rfl
theorem heads_of' {off : Fin 4 → ℕ} {e : Dev nD} (h) (hoff : off = ![4 * e.val, 0, 0, 0]) (f : S64x2x128x64.Idx → Elt F .bf16) :
    (vM.view.readAt (Elt F) (Rect.unit (s := S64x2x128x64) off S4x2x128x64.size h).toLoadRect f : FVec F S4x2x128x64 .bf16) = heads e f := by
  subst hoff; rfl

section Value

variable (w : Dev nD → S512x512.Idx → Elt F .bf16) (mk : IVec S128x128 1) (x : FVec F S2x128x512 .bf16) (kc vc : S64x2x128x64.Idx → Elt F .bf16)

def put0 (f : S2x128x512.Idx → Elt F .f32) (r : FVec F S1x128x512 .f32) : S2x128x512.Idx → Elt F .f32 :=
  (oM.access row0 : View sig .tc _ _ _).write (Elt F) f r Finset.univ
def put1 (f : S2x128x512.Idx → Elt F .f32) (r : FVec F S1x128x512 .f32) : S2x128x512.Idx → Elt F .f32 :=
  (oM.access row1 : View sig .tc _ _ _).write (Elt F) f r Finset.univ
def get0 (f : S2x128x512.Idx → Elt F .f32) : FVec F S1x128x512 .f32 := oM.view.readAt (Elt F) row0.toLoadRect f
def get1 (f : S2x128x512.Idx → Elt F .f32) : FVec F S1x128x512 .f32 := oM.view.readAt (Elt F) row1.toLoadRect f

/-- The result's block with device `e`'s part of the sum added in. -/
def accum (e : Dev nD) (f : S2x128x512.Idx → Elt F .f32) : S2x128x512.Idx → Elt F .f32 :=
  put1 (put0 f (upd0 mk x (slotVal w e) (heads e kc) (heads e vc) (get0 f)))
    (upd1 mk x (slotVal w e) (heads e kc) (heads e vc) (get1 (put0 f (upd0 mk x (slotVal w e) (heads e kc) (heads e vc) (get0 f)))))

/-- The block before trip `k` on device `c`. -/
def outAt (c : Dev nD) : ℕ → S2x128x512.Idx → Elt F .f32
  | 0 => accum w mk x kc vc c (k0_pay52 (Scalar.ofBits .f32 0x00000000#32))
  | k + 1 =>
    if k < 7 then accum w mk x kc vc (owner c (10 + k)) (accum w mk x kc vc (owner c (k + 1)) (outAt c k))
    else accum w mk x kc vc (owner c (k + 1)) (outAt c k)

end Value

/-! ## Loads and stores of the staged blocks -/

/-- The result's block, held whole. -/
def oPt (c : Dev nD) (f : S2x128x512.Idx → Elt F .f32) : sProp 𝕄 := ((c : Thread nD τ).loc cc0_stg4_0) ↦{fullShare} f
def kPt (c : Dev nD) (f : S64x2x128x64.Idx → Elt F .bf16) : sProp 𝕄 := ((c : Thread nD τ).loc cc0_stg2_0) ↦{fullShare} f
def vPt (c : Dev nD) (f : S64x2x128x64.Idx → Elt F .bf16) : sProp 𝕄 := ((c : Thread nD τ).loc cc0_stg3_0) ↦{fullShare} f

theorem row0_step (c : Dev nD) (f : S2x128x512.Idx → Elt F .f32) {α : Type} {Q : α → sProp 𝕄} {hl hl'}
    {g : FVec F S1x128x512 .f32 → FVec F S1x128x512 .f32} {hs hm} {k : PUnit → Prog (TpuEff nD τ sig (Elt F) Λ₀ .tc) α} :
    oPt c f ⊢ iprop((oPt c (put0 f (g (get0 f))) -∗ wp frame (wpE (defs₀ (F := F)) 𝒱₀ (c : Thread nD τ) none) Set.univ (k ⟨⟩) Q)
      -∗ wp frame (wpE (defs₀ (F := F)) 𝒱₀ (c : Thread nD τ) none) Set.univ (.op (.load oM row0.toLoadRect hl : TpuEff nD τ sig (Elt F) Λ₀ .tc (Vec F S1x128x512 .f32)) fun a =>
          .op (.load oM row0.toLoadRect hl' : TpuEff nD τ sig (Elt F) Λ₀ .tc (Vec F S1x128x512 .f32)) fun _ =>
          .op (.store oM row0 (g a) Finset.univ hs hm) k) Q) := by
  unfold oPt
  iintro H Hk
  iapply (wp_load 𝒱₀ (c : Thread nD τ) none Set.univ (m := oM) (r := row0.toLoadRect) (S := Finset.univ) (Finset.subset_univ _)) $$ H
  iintro H
  iapply (wp_load 𝒱₀ (c : Thread nD τ) none Set.univ (m := oM) (r := row0.toLoadRect) (S := Finset.univ) (Finset.subset_univ _)) $$ H
  iintro H
  iapply (wp_store 𝒱₀ (c : Thread nD τ) none Set.univ (m := oM) (r := row0) (S := Finset.univ) (Finset.subset_univ _)) $$ H
  iintro H
  iapply Hk; iexact H

theorem row1_step (c : Dev nD) (f : S2x128x512.Idx → Elt F .f32) {α : Type} {Q : α → sProp 𝕄} {hl hl'}
    {g : FVec F S1x128x512 .f32 → FVec F S1x128x512 .f32} {hs hm} {k : PUnit → Prog (TpuEff nD τ sig (Elt F) Λ₀ .tc) α} :
    oPt c f ⊢ iprop((oPt c (put1 f (g (get1 f))) -∗ wp frame (wpE (defs₀ (F := F)) 𝒱₀ (c : Thread nD τ) none) Set.univ (k ⟨⟩) Q)
      -∗ wp frame (wpE (defs₀ (F := F)) 𝒱₀ (c : Thread nD τ) none) Set.univ (.op (.load oM row1.toLoadRect hl : TpuEff nD τ sig (Elt F) Λ₀ .tc (Vec F S1x128x512 .f32)) fun a =>
          .op (.load oM row1.toLoadRect hl' : TpuEff nD τ sig (Elt F) Λ₀ .tc (Vec F S1x128x512 .f32)) fun _ =>
          .op (.store oM row1 (g a) Finset.univ hs hm) k) Q) := by
  unfold oPt
  iintro H Hk
  iapply (wp_load 𝒱₀ (c : Thread nD τ) none Set.univ (m := oM) (r := row1.toLoadRect) (S := Finset.univ) (Finset.subset_univ _)) $$ H
  iintro H
  iapply (wp_load 𝒱₀ (c : Thread nD τ) none Set.univ (m := oM) (r := row1.toLoadRect) (S := Finset.univ) (Finset.subset_univ _)) $$ H
  iintro H
  iapply (wp_store 𝒱₀ (c : Thread nD τ) none Set.univ (m := oM) (r := row1) (S := Finset.univ) (Finset.subset_univ _)) $$ H
  iintro H
  iapply Hk; iexact H

/-- The two loads of one device's heads. -/
theorem heads_step (c e : Dev nD) (kc vc : S64x2x128x64.Idx → Elt F .bf16) {off off' : Fin 4 → ℕ} {h h'}
    (hoff : off = ![4 * e.val, 0, 0, 0]) (hoff' : off' = ![4 * e.val, 0, 0, 0]) {α : Type} {Q : α → sProp 𝕄} {hl hl'}
    {k : FVec F S4x2x128x64 .bf16 → FVec F S4x2x128x64 .bf16 → Prog (TpuEff nD τ sig (Elt F) Λ₀ .tc) α} :
    iprop(kPt c kc ∗ vPt c vc) ⊢ iprop(((kPt c kc ∗ vPt c vc) -∗ wp frame (wpE (defs₀ (F := F)) 𝒱₀ (c : Thread nD τ) none) Set.univ (k (heads e kc) (heads e vc)) Q)
      -∗ wp frame (wpE (defs₀ (F := F)) 𝒱₀ (c : Thread nD τ) none) Set.univ (.op (.load kM (Rect.unit (s := S64x2x128x64) off S4x2x128x64.size h).toLoadRect hl : TpuEff nD τ sig (Elt F) Λ₀ .tc (Vec F S4x2x128x64 .bf16)) fun a =>
          .op (.load vM (Rect.unit (s := S64x2x128x64) off' S4x2x128x64.size h').toLoadRect hl' : TpuEff nD τ sig (Elt F) Λ₀ .tc (Vec F S4x2x128x64 .bf16)) fun b => k a b) Q) := by
  unfold kPt vPt
  iintro ⟨HK, HV⟩ Hk
  iapply (wp_load 𝒱₀ (c : Thread nD τ) none Set.univ (m := kM) (S := Finset.univ) (Finset.subset_univ _)) $$ HK
  iintro HK
  iapply (wp_load 𝒱₀ (c : Thread nD τ) none Set.univ (m := vM) (S := Finset.univ) (Finset.subset_univ _)) $$ HV
  iintro HV
  rw [heads_of h hoff kc, heads_of' h' hoff' vc]
  iapply Hk
  isplitl [HK]; · iexact HK
  iexact HV

variable (w : Dev nD → S512x512.Idx → Elt F .bf16) (κ : GSem nD τ sig → ℕ)

/-- The right half share of both halves of slot `j`, in place: what the kernel reads the slot by. -/
def Rgt (j : ℕ) (c : Dev nD) : sProp 𝕄 :=
  iprop(slabPt c j 0 fullShare.right (comm w c) ∗ slabPt c j 1 fullShare.right (comm w c))

theorem slot_step (c : Dev nD) (j : ℕ) {off : Fin 3 → ℕ} {h} (hoff : off = ![j, 0, 0]) {α : Type} {Q : α → sProp 𝕄} {hl}
    {k : FVec F S1x512x512 .bf16 → Prog (TpuEff nD τ sig (Elt F) Λ₀ .tc) α} :
    Rgt w j c ⊢ iprop((Rgt w j c -∗ wp frame (wpE (defs₀ (F := F)) 𝒱₀ (c : Thread nD τ) none) Set.univ (k (slotVal w (owner c j))) Q)
      -∗ wp frame (wpE (defs₀ (F := F)) 𝒱₀ (c : Thread nD τ) none) Set.univ (.op (.load cM (Rect.unit (s := S17x512x512) off S1x512x512.size h).toLoadRect hl : TpuEff nD τ sig (Elt F) Λ₀ .tc (Vec F S1x512x512 .bf16)) k) Q) := by
  have hu := pointsTo_union (Ix := Unit) (Name := ℕ) (U := UU) (Lvl := ℕ) (Val := Elt F) (ℓ := (c : Thread nD τ).loc cc0_scratch0) (I := slab j 0) (J := slab j 1) (q := fullShare.right) (f := comm w c)
    (slab_disjoint (j := j) (s := 0) (j' := j) (s' := 1) (.inr (by decide)))
  rw [← slot_eq] at hu
  unfold Rgt slabPt
  iintro H Hk
  ihave H1 := hu.2 $$ H
  iapply (wp_load 𝒱₀ (c : Thread nD τ) none Set.univ (m := cM) (S := slot j) (by rw [slot_set h hoff])) $$ H1
  iintro H1
  rw [read_slot w c h hoff]
  iapply Hk
  iapply hu.1; iexact H1

/-! ## One half of one direction -/

/-- The two waits of half `s` of transfer `k`, and the start of the next transfer's if there is one. -/
theorem half_step (c : Dev nD) {d : Bool} {k s : ℕ} (hk : k < hops d) (hs : s < 2) {cond : Prop} [Decidable cond] (hc : cond ↔ k + 1 < hops d)
    {off off' : Fin 3 → ℕ} {h} {h'} {qS qR : DmaSem sig} (hqS : qS = dsem (sIx d k s)) (hqR : qR = dsem (rIx d k s))
    {src src' : Memref sig .tc .vmem S256x512 .bf16} {hsrc : src.view.WordExact} {hdst : (slabM off h).view.WordExact}
    {hsrc' : src'.view.WordExact} {hdst' : (slabM off' h').view.WordExact}
    {P : Finset (Bool × ℕ × ℕ)} (hP : ∀ d' j t, (d', j, t) ∈ P → j < hops d' ∧ t < 2 ∧ k < j) (hm : k + 1 < hops d → (d, k + 1, s) ∈ P)
    (W : Waits sig Unit) {α : Type} {Q : α → sProp 𝕄} {A : cond → Prog (TpuEff nD τ sig (Elt F) Λ₀ .tc) α} {k' : Prog (TpuEff nD τ sig (Elt F) Λ₀ .tc) α}
    (hA : ∀ (hcond : cond) (hk1 : k + 1 < hops d) (hm1 : (d, k + 1, s) ∈ P) (W : Waits sig Unit),
      iprop(invs w κ ∗ Fut d (k + 1) s c ∗ slabPt c (base d + (k + 1)) s fullShare.left (comm w c) ∗ owes (c : Thread nD τ) (owe P c) W)
        ⊢ iprop(((Act d (k + 1) s c ∗ owes (c : Thread nD τ) (owe (P.erase (d, k + 1, s)) c) W) -∗ wp frame (wpE (defs₀ (F := F)) 𝒱₀ (c : Thread nD τ) none) Set.univ k' Q) -∗ wp frame (wpE (defs₀ (F := F)) 𝒱₀ (c : Thread nD τ) none) Set.univ (A hcond) Q)) :
    iprop(invs w κ ∗ Act d k s c ∗ FutO d (k + 1) s c ∗ owes (c : Thread nD τ) (owe P c) W)
      ⊢ iprop(((Done w d k s c ∗ ActO w d (k + 1) s c ∗ slabPt c (base d + (k + 1)) s fullShare.right (comm w c)
            ∗ (∃ W', owes (c : Thread nD τ) (owe (P.erase (d, k + 1, s)) c) W')) -∗ wp frame (wpE (defs₀ (F := F)) 𝒱₀ (c : Thread nD τ) none) Set.univ k' Q)
          -∗ wp frame (wpE (defs₀ (F := F)) 𝒱₀ (c : Thread nD τ) none) Set.univ (.op (.waitDma2 qS src (slabM off h) hsrc hdst) fun _ => .op (.waitDma2 qR src' (slabM off' h') hsrc' hdst') fun _ =>
              if hcond : cond then A hcond else k') Q) := by
  iintro ⟨#HI, HA, HF, HO⟩ Hk
  iapply (wait_pair w κ c hk hs hqS hqR hP W) $$ [HA HO]
  · isplitr; · iexact HI
    isplitl [HA]; · iexact HA
    iexact HO
  iintro ⟨HD, HL, HR, ⟨%W', HO⟩⟩
  iapply (cond_send w κ c hc hs hm (fun hn hm' => hn (hP _ _ _ hm').1) W' (fun hcond hk1 hm1 => hA hcond hk1 hm1 W')) $$ [HF HL HO]
  · isplitr; · iexact HI
    isplitl [HF]; · iexact HF
    isplitl [HL]; · iexact HL
    iexact HO
  iintro ⟨HA, HO⟩
  iapply Hk
  isplitl [HD]; · iexact HD
  isplitl [HA]; · iexact HA
  isplitl [HR]; · iexact HR
  iexists W'; iexact HO

/-! ## One direction before trip `k` -/

def Past (d : Bool) (j : ℕ) (c : Dev nD) : sProp 𝕄 := iprop(Done w d j 0 c ∗ Done w d j 1 c ∗ Rgt w (base d + j) c)
def Futs (d : Bool) (j : ℕ) (c : Dev nD) : sProp 𝕄 := iprop(Fut d j 0 c ∗ Fut d j 1 c)

/-- Transfers before `k` waited for, the `k`-th in flight if there is one, the later ones not started. -/
def DirInv (d : Bool) (k : ℕ) (c : Dev nD) : sProp 𝕄 :=
  iprop((bigSep (Finset.range k) fun j => Past w d j c) ∗ Rgt w (base d + k) c ∗ (ActO w d k 0 c ∗ ActO w d k 1 c)
    ∗ bigSep (Finset.Ico (k + 1) (hops d)) fun j => Futs d j c)

/-- What trip `k` leaves alone of it. -/
def DirRest (d : Bool) (k : ℕ) (c : Dev nD) : sProp 𝕄 :=
  iprop((bigSep (Finset.range k) fun j => Past w d j c) ∗ Rgt w (base d + k) c ∗ bigSep (Finset.Ico (k + 2) (hops d)) fun j => Futs d j c)

theorem futs_next (d : Bool) (k : ℕ) (c : Dev nD) :
    (bigSep (Finset.Ico k (hops d)) fun j => Futs (F := F) d j c) ⊢ iprop((FutO d k 0 c ∗ FutO d k 1 c) ∗ bigSep (Finset.Ico (k + 1) (hops d)) fun j => Futs d j c) := by
  by_cases hk : k < hops d
  · rw [FutO_pos hk, FutO_pos hk, show Finset.Ico k (hops d) = insert k (Finset.Ico (k + 1) (hops d)) from by ext j; simp only [Finset.mem_insert, Finset.mem_Ico]; omega,
      bigSep_insert (by rw [Finset.mem_Ico]; omega)]
    exact Entails.refl _
  · rw [FutO_neg hk, FutO_neg hk, Finset.Ico_eq_empty (by omega), Finset.Ico_eq_empty (by omega), bigSep_empty]
    iintro -
    isplit; · isplit <;> iempintro
    iempintro

theorem dir_open (d : Bool) {k : ℕ} (hk : k < hops d) (c : Dev nD) :
    DirInv w d k c ⊢ iprop(Act (F := F) d k 0 c ∗ Act d k 1 c ∗ FutO d (k + 1) 0 c ∗ FutO d (k + 1) 1 c ∗ DirRest w d k c) := by
  unfold DirInv DirRest
  rw [ActO_pos w hk, ActO_pos w hk]
  iintro ⟨HP, HR, ⟨HA0, HA1⟩, HF⟩
  ihave HF' := (futs_next d (k + 1) c) $$ HF
  icases HF' with ⟨⟨HF0, HF1⟩, HF⟩
  isplitl [HA0]; · iexact HA0
  isplitl [HA1]; · iexact HA1
  isplitl [HF0]; · iexact HF0
  isplitl [HF1]; · iexact HF1
  isplitl [HP]; · iexact HP
  isplitl [HR]; · iexact HR
  iexact HF

theorem past_next (d : Bool) (k : ℕ) (c : Dev nD) :
    iprop(Past w d k c ∗ bigSep (Finset.range k) fun j => Past w d j c) ⊢ (bigSep (Finset.range (k + 1)) fun j => Past (F := F) w d j c) := by
  rw [Finset.range_add_one, bigSep_insert (by rw [Finset.mem_range]; omega)]
  exact Entails.refl _

theorem dir_close (d : Bool) (k : ℕ) (c : Dev nD) :
    iprop(Done w d k 0 c ∗ Done w d k 1 c ∗ ActO w d (k + 1) 0 c ∗ ActO w d (k + 1) 1 c
      ∗ slabPt c (base d + (k + 1)) 0 fullShare.right (comm w c) ∗ slabPt c (base d + (k + 1)) 1 fullShare.right (comm w c) ∗ DirRest w d k c)
      ⊢ DirInv (F := F) w d (k + 1) c := by
  unfold DirInv DirRest Rgt
  iintro ⟨HD0, HD1, HA0, HA1, HR0, HR1, HP, HR, HF⟩
  isplitl [HD0 HD1 HP HR]
  · iapply (past_next w d k c)
    isplitr [HP]; swap; · iexact HP
    unfold Past Rgt
    isplitl [HD0]; · iexact HD0
    isplitl [HD1]; · iexact HD1
    iexact HR
  isplitl [HR0 HR1]
  · isplitl [HR0]; · iexact HR0
    iexact HR1
  isplitl [HA0 HA1]
  · isplitl [HA0]; · iexact HA0
    iexact HA1
  iexact HF

/-- The slot that has arrived last, to read. -/
theorem dir_slot (d : Bool) (k : ℕ) (c : Dev nD) :
    DirInv w d k c ⊢ iprop(Rgt (F := F) w (base d + k) c ∗ (Rgt w (base d + k) c -∗ DirInv w d k c)) := by
  unfold DirInv
  iintro ⟨HP, HR, HA, HF⟩
  isplitl [HR]; · iexact HR
  iintro HR
  isplitl [HP]; · iexact HP
  isplitl [HR]; · iexact HR
  isplitl [HA]; · iexact HA
  iexact HF

/-! ## The trip's side conditions -/

theorem trips_lt (t : Fin k0_t1_loop.trips) : t.val < 8 := Nat.lt_of_lt_of_le t.isLt k0_t1_abs.2.1

theorem cond1_iff (t : Fin k0_t1_loop.trips) : k0_cond1 t = 1#1 ↔ t.val + 1 < hops false := by revert t; decide +kernel
theorem cond2_iff (t : Fin k0_t1_loop.trips) : k0_cond2 t = 1#1 ↔ t.val + 1 < hops false := by revert t; decide +kernel
theorem cond3_iff (t : Fin k0_t1_loop.trips) : k0_cond3 t = 1#1 ↔ t.val < 7 := by revert t; decide +kernel
theorem cond4_iff (t : Fin k0_t1_loop.trips) : k0_cond4 t = 1#1 ↔ t.val + 1 < hops true := by revert t; decide +kernel
theorem cond5_iff (t : Fin k0_t1_loop.trips) : k0_cond5 t = 1#1 ↔ t.val + 1 < hops true := by revert t; decide +kernel
theorem cond6_iff (t : Fin k0_t1_loop.trips) : k0_cond6 t = 1#1 ↔ t.val < 7 := by revert t; decide +kernel

theorem off_eq {off : Fin 3 → ℕ} {a b a' b' : ℕ} (h : off = ![a, b, 0]) (ha : a = a') (hb : b = b') : off = ![a', b', 0] := by
  rw [h, ha, hb]

theorem pend_step {k : ℕ} :
    ((((pend k k).erase (false, k, 0)).erase (false, k, 1)).erase (true, k, 0)).erase (true, k, 1) = pend (k + 1) (k + 1) := by
  ext ⟨d, j, s⟩
  simp only [Finset.mem_erase, mem_pend, ne_eq, Prod.mk.injEq]
  cases d <;> simp only [if_true, if_false, Bool.false_eq_true, true_and, false_and, not_false_eq_true, reduceCtorEq] <;> omega

theorem pend_last {k : ℕ} (h : hops true ≤ k) : ((pend k k).erase (false, k, 0)).erase (false, k, 1) = pend (k + 1) (k + 1) := by
  ext ⟨d, j, s⟩
  simp only [Finset.mem_erase, mem_pend, ne_eq, Prod.mk.injEq]
  cases d <;> simp only [hops, if_true, if_false, Bool.false_eq_true, true_and, false_and, not_false_eq_true, reduceCtorEq] at h ⊢ <;> omega

/-- Every transfer still due is a later one. -/
def Later (k : ℕ) (P : Finset (Bool × ℕ × ℕ)) : Prop := ∀ d j s, (d, j, s) ∈ P → j < hops d ∧ s < 2 ∧ k < j

theorem later_pend (k : ℕ) : Later k (pend (k + 1) (k + 1)) := fun d j s h => by
  obtain ⟨h1, h2, h3⟩ := mem_pend.mp h
  cases d <;> simp only [if_true, if_false, Bool.false_eq_true] at h1 <;> exact ⟨h2, h3, by omega⟩
theorem later_erase {k : ℕ} {P : Finset (Bool × ℕ × ℕ)} (h : Later k P) (x : Bool × ℕ × ℕ) : Later k (P.erase x) :=
  fun d j s hm => h d j s (Finset.mem_of_mem_erase hm)

theorem pend_mem {d : Bool} {k s : ℕ} (hs : s < 2) (h : k < hops d) : (d, k, s) ∈ pend k k :=
  mem_pend.mpr ⟨by cases d <;> exact Nat.le_refl _, h, hs⟩

/-! ## The trip's waits and sends -/

theorem part6_spec (c : Dev nD) (v7 : BitVec 32) (t : Fin k0_t1_loop.trips) (W : Waits sig Unit) {Q : BitVec 32 → sProp 𝕄} :
    iprop(invs w κ ∗ Act false t.val 0 c ∗ FutO false (t.val + 1) 0 c ∗ owes (c : Thread nD τ) (owe (pend (t.val + 1) (t.val + 1)) c) W)
      ⊢ iprop(((Done w false t.val 0 c ∗ ActO w false (t.val + 1) 0 c ∗ slabPt c (base false + (t.val + 1)) 0 fullShare.right (comm w c)
            ∗ (∃ W', owes (c : Thread nD τ) (owe ((pend (t.val + 1) (t.val + 1)).erase (false, t.val + 1, 0)) c) W')) -∗ Q (Scf.iv 1#32 1#32 t))
          -∗ wp frame (wpE (defs₀ (F := F)) 𝒱₀ (c : Thread nD τ) none) Set.univ (k0_part6 (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4 c v7 1#32 1#32 t) Q) := by
  have ht := trips_lt t
  rw [k0_part6_eq_skeleton]
  unfold k0_part6_skel
  simp only [Prog.lift, Prog.bind_op, Prog.bind_ret, Prog.pure_eq_ret, Prog.bind_assoc]
  iintro ⟨#HI, HA, HF, HO⟩ Hk
  iapply (half_step w κ c (d := false) (k := t.val) (s := 0) ht (by decide) (cond1_iff t)
    (cw_send_eq _ (k0_off2_eq t) ht (by decide)) (cw_recv_eq _ (k0_off2_eq t) ht (by decide)) (later_pend _) (pend_mem (by decide)) W
    (fun hc hk1 hm W => send_step w κ c _ (dev_next (k0_dev7_eq c)) hk1 (by decide) _ _ (off_eq (k0_off7_eq t) (by simp only [base, Bool.false_eq_true, if_false]; omega) rfl)
      (off_eq (k0_off6_eq t) (by simp only [base, Bool.false_eq_true, if_false]; omega) rfl) (cw_send_eq _ (k0_off5_eq t) hk1 (by decide))
      (cw_recv_eq _ (k0_off5_eq t) hk1 (by decide)) hm W)) $$ [HA HF HO]
  · isplitr; · iexact HI
    isplitl [HA]; · iexact HA
    isplitl [HF]; · iexact HF
    iexact HO
  iintro H
  rw [wp_ret]; imodintro
  iapply Hk; iexact H

variable (kc vc : S64x2x128x64.Idx → Elt F .bf16)

/-- The state between the trip's two clockwise halves. -/
def Mid (c : Dev nD) (k : ℕ) : sProp 𝕄 :=
  iprop((∃ W, owes (c : Thread nD τ) (owe ((pend (k + 1) (k + 1)).erase (false, k + 1, 0)) c) W)
    ∗ (Done w false k 0 c ∗ ActO w false (k + 1) 0 c ∗ slabPt c (base false + (k + 1)) 0 fullShare.right (comm w c))
    ∗ (Act false k 1 c ∗ FutO false (k + 1) 1 c ∗ DirRest w false k c) ∗ DirInv w true (min k 7) c)

/-- and after all its waits. -/
def Arrived (c : Dev nD) (k : ℕ) : sProp 𝕄 :=
  iprop((∃ W, owes (c : Thread nD τ) (owe (pend (k + 2) (k + 2)) c) W) ∗ DirInv w false (k + 1) c ∗ DirInv w true (min (k + 1) 7) c)

/-- The loads at the end of the trip's first part, once its transfers are in. -/
theorem loads_spec (c : Dev nD) (t : Fin k0_t1_loop.trips) {hl hk hv} {Q : (Σ' (_ : FVec F S512x256 .bf16) (_ : FVec F S512x256 .bf16) (_ : FVec F S4x2x128x64 .bf16), Vec F S4x2x128x64 .bf16) → sProp 𝕄} :
    iprop(DirInv w false (t.val + 1) c ∗ kPt c kc ∗ vPt c vc)
      ⊢ iprop(((DirInv w false (t.val + 1) c ∗ kPt c kc ∗ vPt c vc)
            -∗ Q ⟨k0_pay27 (slotVal w (owner c (t.val + 1))), k0_pay28 (slotVal w (owner c (t.val + 1))), k0_pay29 (heads (owner c (t.val + 1)) kc), heads (owner c (t.val + 1)) vc⟩)
          -∗ wp frame (wpE (defs₀ (F := F)) 𝒱₀ (c : Thread nD τ) none) Set.univ (.op (.load cM (Rect.unit (s := S17x512x512) (k0_off26 t) S1x512x512.size (k0_off26_inb t)).toLoadRect hl : TpuEff nD τ sig (Elt F) Λ₀ .tc (Vec F S1x512x512 .bf16)) fun a =>
            .op (.load kM (Rect.unit (s := S64x2x128x64) (k0_off27 c t) S4x2x128x64.size (k0_off27_inb c t)).toLoadRect hk : TpuEff nD τ sig (Elt F) Λ₀ .tc (Vec F S4x2x128x64 .bf16)) fun b =>
            .op (.load vM (Rect.unit (s := S64x2x128x64) (k0_off27 c t) S4x2x128x64.size (k0_off27_inb c t)).toLoadRect hv : TpuEff nD τ sig (Elt F) Λ₀ .tc (Vec F S4x2x128x64 .bf16)) fun v =>
            .ret ⟨k0_pay27 a, k0_pay28 a, k0_pay29 b, v⟩) Q) := by
  have ht := trips_lt t
  have ho : k0_off27 c t = ![4 * (owner c (t.val + 1)).val, 0, 0, 0] := by
    rw [k0_off27_eq]
    have : (c.val + 15 - t.val) % 16 = (owner c (t.val + 1)).val := by
      unfold owner back; rw [if_pos (by omega)]
      show _ = (c.val + (16 - (t.val + 1) % 16)) % 16
      omega
    rw [this]
  iintro ⟨HD, HKV⟩ Hk
  ihave HD' := (dir_slot w false (t.val + 1) c) $$ HD
  icases HD' with ⟨HR, HD⟩
  iapply (slot_step w c (base false + (t.val + 1)) (off_eq (k0_off26_eq t) (by simp only [base, Bool.false_eq_true, if_false, if_true]; omega) rfl)) $$ HR
  iintro HR
  rw [show base false + (t.val + 1) = t.val + 1 from Nat.zero_add _]
  iapply (heads_step c (owner c (t.val + 1)) kc vc ho ho) $$ HKV
  iintro HKV
  rw [wp_ret]; imodintro
  iapply Hk
  isplitl [HD HR]
  · iapply HD; iexact HR
  iexact HKV

theorem part1_spec (c : Dev nD) (v5 : BitVec 32) (t : Fin k0_t1_loop.trips) (i : BitVec 32) (h3 : k0_cond3 t = 1#1) {P : Finset (Bool × ℕ × ℕ)}
    (hP : Later t.val P) (hm : t.val + 1 < hops true → (true, t.val + 1, 0) ∈ P) (W : Waits sig Unit) {Q : PUnit → sProp 𝕄} :
    iprop(invs w κ ∗ Act true t.val 0 c ∗ FutO true (t.val + 1) 0 c ∗ owes (c : Thread nD τ) (owe P c) W)
      ⊢ iprop(((Done w true t.val 0 c ∗ ActO w true (t.val + 1) 0 c ∗ slabPt c (base true + (t.val + 1)) 0 fullShare.right (comm w c)
            ∗ (∃ W', owes (c : Thread nD τ) (owe (P.erase (true, t.val + 1, 0)) c) W')) -∗ Q ⟨⟩)
          -∗ wp frame (wpE (defs₀ (F := F)) 𝒱₀ (c : Thread nD τ) none) Set.univ (k0_part1 (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4 c v5 t i h3) Q) := by
  have h7 := (cond3_iff t).mp h3
  rw [k0_part1_eq_skeleton]
  unfold k0_part1_skel
  simp only [Prog.lift, Prog.bind_op, Prog.bind_ret, Prog.pure_eq_ret, Prog.bind_assoc]
  iintro ⟨#HI, HA, HF, HO⟩ Hk
  iapply (half_step w κ c (d := true) (k := t.val) (s := 0) h7 (by decide) (cond4_iff t)
    (ccw_send_eq _ (k0_off14_eq t) h7 (by decide)) (ccw_recv_eq _ (k0_off14_eq t) h7 (by decide)) hP hm W
    (fun hc hk1 hm W => send_step w κ c _ (dev_prev (k0_dev9_eq c)) hk1 (by decide) _ _
      (off_eq (k0_off19_eq t) (by simp only [base, Bool.false_eq_true, if_false, if_true]; omega) rfl) (off_eq (k0_off18_eq t) (by simp only [base, Bool.false_eq_true, if_false, if_true]; omega) rfl)
      (ccw_send_eq _ (k0_off17_eq t) hk1 (by decide)) (ccw_recv_eq _ (k0_off17_eq t) hk1 (by decide)) hm W)) $$ [HA HF HO]
  · isplitr; · iexact HI
    isplitl [HA]; · iexact HA
    isplitl [HF]; · iexact HF
    iexact HO
  iintro H
  rw [wp_ret]; imodintro
  iapply Hk; iexact H

theorem part7_spec (c : Dev nD) (v2 v5 v7 : BitVec 32) (t : Fin k0_t1_loop.trips) (i : BitVec 32)
    {Q : (Σ' (_ : FVec F S512x256 .bf16) (_ : FVec F S512x256 .bf16) (_ : FVec F S4x2x128x64 .bf16), Vec F S4x2x128x64 .bf16) → sProp 𝕄} :
    iprop(invs w κ ∗ Mid w c t.val ∗ kPt c kc ∗ vPt c vc)
      ⊢ iprop(((Arrived w c t.val ∗ kPt c kc ∗ vPt c vc)
            -∗ Q ⟨k0_pay27 (slotVal w (owner c (t.val + 1))), k0_pay28 (slotVal w (owner c (t.val + 1))), k0_pay29 (heads (owner c (t.val + 1)) kc), heads (owner c (t.val + 1)) vc⟩)
          -∗ wp frame (wpE (defs₀ (F := F)) 𝒱₀ (c : Thread nD τ) none) Set.univ (k0_part7 (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4 c v2 v5 v7 t i) Q) := by
  have ht := trips_lt t
  rw [k0_part7_eq_skeleton]
  unfold k0_part7_skel
  unfold Mid Arrived
  simp only [Prog.lift, Prog.bind_op, Prog.bind_ret, Prog.pure_eq_ret, Prog.bind_assoc]
  have hm1 : t.val + 1 < hops false → (false, t.val + 1, 1) ∈ (pend (t.val + 1) (t.val + 1)).erase (false, t.val + 1, 0) := fun h =>
    Finset.mem_erase.mpr ⟨(fun e => by cases e), pend_mem (by decide) h⟩
  have hm2 : t.val + 1 < hops true → (true, t.val + 1, 0) ∈ ((pend (t.val + 1) (t.val + 1)).erase (false, t.val + 1, 0)).erase (false, t.val + 1, 1) := fun h =>
    Finset.mem_erase.mpr ⟨(fun e => by cases e), Finset.mem_erase.mpr ⟨(fun e => by cases e), pend_mem (by decide) h⟩⟩
  have hm3 : t.val + 1 < hops true →
      (true, t.val + 1, 1) ∈ (((pend (t.val + 1) (t.val + 1)).erase (false, t.val + 1, 0)).erase (false, t.val + 1, 1)).erase (true, t.val + 1, 0) := fun h =>
    Finset.mem_erase.mpr ⟨(fun e => by cases e), Finset.mem_erase.mpr ⟨(fun e => by cases e), Finset.mem_erase.mpr ⟨(fun e => by cases e), pend_mem (by decide) h⟩⟩⟩
  iintro ⟨#HI, ⟨⟨%W, HO⟩, ⟨HD0, HA0, HR0⟩, ⟨HA, HF, HDR⟩, HX⟩, HKV⟩ Hk
  iapply (half_step w κ c (d := false) (k := t.val) (s := 1) ht (by decide) (cond2_iff t)
    (cw_send_eq _ (k0_off8_eq t) ht (by decide)) (cw_recv_eq _ (k0_off8_eq t) ht (by decide)) (later_erase (later_pend _) _) hm1 _
    (fun hc hk1 hm W => send_step w κ c _ (dev_next (k0_dev8_eq c)) hk1 (by decide) _ _
      (off_eq (k0_off13_eq t) (by simp only [base, Bool.false_eq_true, if_false, if_true]; omega) rfl) (off_eq (k0_off12_eq t) (by simp only [base, Bool.false_eq_true, if_false, if_true]; omega) rfl)
      (cw_send_eq _ (k0_off11_eq t) hk1 (by decide)) (cw_recv_eq _ (k0_off11_eq t) hk1 (by decide)) hm W)) $$ [HA HF HO]
  · isplitr; · iexact HI
    isplitl [HA]; · iexact HA
    isplitl [HF]; · iexact HF
    iexact HO
  iintro ⟨HD1, HA1, HR1, ⟨%W1, HO⟩⟩
  ihave HC := (dir_close w false t.val c) $$ [HD0 HD1 HA0 HA1 HR0 HR1 HDR]
  · isplitl [HD0]; · iexact HD0
    isplitl [HD1]; · iexact HD1
    isplitl [HA0]; · iexact HA0
    isplitl [HA1]; · iexact HA1
    isplitl [HR0]; · iexact HR0
    isplitl [HR1]; · iexact HR1
    iexact HDR
  by_cases h7 : t.val < 7
  · rw [dif_pos ((cond3_iff t).mpr h7)]
    simp only [Prog.bind_op, Prog.bind_ret, Prog.bind_assoc]
    rw [show min t.val 7 = t.val by omega, show min (t.val + 1) 7 = t.val + 1 by omega]
    ihave HX' := (dir_open w true (k := t.val) h7 c) $$ HX
    icases HX' with ⟨HA0, HA1, HF0, HF1, HDR⟩
    rw [wp_bind]
    iapply (part1_spec w κ c v5 t i _ (later_erase (later_erase (later_pend _) _) _) hm2 W1) $$ [HA0 HF0 HO]
    · isplitr; · iexact HI
      isplitl [HA0]; · iexact HA0
      isplitl [HF0]; · iexact HF0
      iexact HO
    iintro ⟨HD0, HA0, HR0, ⟨%W2, HO⟩⟩
    iapply (half_step w κ c (d := true) (k := t.val) (s := 1) h7 (by decide) (cond5_iff t)
      (ccw_send_eq _ (k0_off20_eq t) h7 (by decide)) (ccw_recv_eq _ (k0_off20_eq t) h7 (by decide)) (later_erase (later_erase (later_erase (later_pend _) _) _) _) hm3 W2
      (fun hc hk1 hm W => send_step w κ c _ (dev_prev (k0_dev10_eq c)) hk1 (by decide) _ _
        (off_eq (k0_off25_eq t) (by simp only [base, Bool.false_eq_true, if_false, if_true]; omega) rfl) (off_eq (k0_off24_eq t) (by simp only [base, Bool.false_eq_true, if_false, if_true]; omega) rfl)
        (ccw_send_eq _ (k0_off23_eq t) hk1 (by decide)) (ccw_recv_eq _ (k0_off23_eq t) hk1 (by decide)) hm W)) $$ [HA1 HF1 HO]
    · isplitr; · iexact HI
      isplitl [HA1]; · iexact HA1
      isplitl [HF1]; · iexact HF1
      iexact HO
    iintro ⟨HD1, HA1, HR1, ⟨%W3, HO⟩⟩
    ihave HX := (dir_close w true t.val c) $$ [HD0 HD1 HA0 HA1 HR0 HR1 HDR]
    · isplitl [HD0]; · iexact HD0
      isplitl [HD1]; · iexact HD1
      isplitl [HA0]; · iexact HA0
      isplitl [HA1]; · iexact HA1
      isplitl [HR0]; · iexact HR0
      isplitl [HR1]; · iexact HR1
      iexact HDR
    iapply (loads_spec w kc vc c t) $$ [HC HKV]
    · isplitl [HC]; · iexact HC
      iexact HKV
    iintro ⟨HC, HKV⟩
    iapply Hk
    isplitr [HKV]; swap; · iexact HKV
    isplitl [HO]; · iexists W3; rw [pend_step]; iexact HO
    isplitl [HC]; · iexact HC
    iexact HX
  · rw [dif_neg (fun h => h7 ((cond3_iff t).mp h))]
    rw [show min t.val 7 = 7 by omega, show min (t.val + 1) 7 = 7 by omega]
    iapply (loads_spec w kc vc c t) $$ [HC HKV]
    · isplitl [HC]; · iexact HC
      iexact HKV
    iintro ⟨HC, HKV⟩
    iapply Hk
    isplitr [HKV]; swap; · iexact HKV
    isplitl [HO]; · iexists W1; rw [pend_last (by show 7 ≤ t.val + 1; omega)]; iexact HO
    isplitl [HC]; · iexact HC
    iexact HX

end Cert.Gather

end
-- ==== Proof.Loop.lean ====
/-
The kernel's loop: a whole trip, and its trips together.
-/
module

public import proofs.«01_k».proof.Proof.Trip

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S512x512.Idx → Elt F .bf16) (κ : GSem nD τ sig → ℕ)
variable (mk : IVec S128x128 1) (x : FVec F S2x128x512 .bf16) (kc vc : S64x2x128x64.Idx → Elt F .bf16)

/-- What device `c` holds before trip `k`. -/
def LInv (c : Dev nD) (k : ℕ) : sProp 𝕄 :=
  iprop((∃ W, owes (c : Thread nD τ) (owe (pend (k + 1) (k + 1)) c) W) ∗ DirInv w false k c ∗ DirInv w true (min k 7) c
    ∗ (kPt c kc ∗ vPt c vc) ∗ oPt c (outAt w mk x kc vc c k))

theorem outAt_succ (c : Dev nD) {k : ℕ} (h : k < 7) : outAt w mk x kc vc c (k + 1)
    = accum w mk x kc vc (owner c (10 + k)) (accum w mk x kc vc (owner c (k + 1)) (outAt w mk x kc vc c k)) := if_pos h
theorem outAt_last (c : Dev nD) {k : ℕ} (h : ¬k < 7) : outAt w mk x kc vc c (k + 1)
    = accum w mk x kc vc (owner c (k + 1)) (outAt w mk x kc vc c k) := if_neg h

theorem trip (c : Dev nD) (v2 v5 v7 : BitVec 32) (t : Fin k0_t1_loop.trips) :
    iprop(invs w κ ∗ LInv w mk x kc vc c t.val) ⊢ wp frame (wpE (defs₀ (F := F)) 𝒱₀ (c : Thread nD τ) none) Set.univ
      (k0_t1_body (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4 c v2 v5 v7 mk x t ())
      (fun _ => LInv w mk x kc vc c (t.val + 1)) := by
  have ht := trips_lt t
  unfold k0_t1_body LInv
  iintro ⟨#HI, ⟨%W, HO⟩, HC, HX, HKV, HOut⟩
  ihave HC' := (dir_open w false (k := t.val) ht c) $$ HC
  icases HC' with ⟨HA0, HA1, HF0, HF1, HDR⟩
  rw [wp_bind]
  iapply (part6_spec w κ c v7 t W) $$ [HA0 HF0 HO]
  · isplitr; · iexact HI
    isplitl [HA0]; · iexact HA0
    isplitl [HF0]; · iexact HF0
    iexact HO
  iintro ⟨HD0, HA0, HR0, HO⟩
  rw [wp_bind]
  iapply (part7_spec w κ kc vc c v2 v5 v7 t _) $$ [HO HD0 HA0 HR0 HA1 HF1 HDR HX HKV]
  · unfold Mid
    isplitr; · iexact HI
    isplitr [HKV]; swap; · iexact HKV
    isplitl [HO]; · iexact HO
    isplitl [HD0 HA0 HR0]
    · isplitl [HD0]; · iexact HD0
      isplitl [HA0]; · iexact HA0
      iexact HR0
    isplitr [HX]; swap; · iexact HX
    isplitl [HA1]; · iexact HA1
    isplitl [HF1]; · iexact HF1
    iexact HDR
  unfold Arrived
  iintro ⟨⟨HO, HC, HX⟩, HKV⟩
  simp only [k0_part8_eq_skeleton, k0_part9_eq_skeleton, k0_part10_eq_skeleton, k0_part11_eq_skeleton]
  unfold k0_part8_skel k0_part9_skel k0_part10_skel k0_part11_skel
  simp only [Prog.lift, Prog.bind_op, Prog.bind_ret, Prog.pure_eq_ret, Prog.bind_assoc]
  iapply (row0_step c _) $$ HOut
  iintro HOut
  iapply (row1_step c _) $$ HOut
  iintro HOut
  simp only [upd0_trip, upd1_trip]
  by_cases h7 : t.val < 7
  · rw [dif_pos ((cond6_iff t).mpr h7)]
    simp only [k0_part2_eq_skeleton, k0_part3_eq_skeleton, k0_part4_eq_skeleton, k0_part5_eq_skeleton]
    unfold k0_part2_skel k0_part3_skel k0_part4_skel k0_part5_skel
    simp only [Prog.lift, Prog.bind_op, Prog.bind_ret, Prog.pure_eq_ret, Prog.bind_assoc]
    have ho : k0_off29 c t = ![4 * (owner c (10 + t.val)).val, 0, 0, 0] := by
      rw [k0_off29_eq]
      have : (c.val + t.val + 1) % 16 = (owner c (10 + t.val)).val := by
        unfold owner ahead; rw [if_neg (by omega)]
        show _ = (c.val + (10 + t.val - 9)) % 16
        rw [show 10 + t.val - 9 = t.val + 1 by omega, Nat.add_assoc]
      rw [this]
    rw [show min (t.val + 1) 7 = t.val + 1 by omega]
    ihave HX' := (dir_slot w true (t.val + 1) c) $$ HX
    icases HX' with ⟨HR, HX⟩
    iapply (slot_step w c (base true + (t.val + 1)) (off_eq (k0_off28_eq t) (by simp only [base, if_true]; omega) rfl)) $$ HR
    iintro HR
    rw [show base true + (t.val + 1) = 10 + t.val by simp only [base, if_true]; omega]
    iapply (heads_step c (owner c (10 + t.val)) kc vc ho ho) $$ HKV
    iintro HKV
    iapply (row0_step c _) $$ HOut
    iintro HOut
    iapply (row1_step c _) $$ HOut
    iintro HOut
    rw [wp_ret]; imodintro
    isplitl [HO]; · iexact HO
    isplitl [HC]; · iexact HC
    isplitl [HX HR]
    · iapply HX; iexact HR
    isplitl [HKV]; · iexact HKV
    rw [outAt_succ w mk x kc vc c h7]
    iexact HOut
  · rw [dif_neg (fun h => h7 ((cond6_iff t).mp h)), wp_ret]
    imodintro
    isplitl [HO]; · iexact HO
    isplitl [HC]; · iexact HC
    isplitl [HX]; · iexact HX
    isplitl [HKV]; · iexact HKV
    rw [outAt_last w mk x kc vc c h7]
    iexact HOut

/-- All the trips. -/
theorem trips (c : Dev nD) (v2 v5 v7 : BitVec 32) {Q : PUnit → sProp 𝕄} :
    iprop(invs w κ ∗ LInv w mk x kc vc c 0) ⊢ iprop((LInv w mk x kc vc c 8 -∗ Q ⟨⟩)
      -∗ wp frame (wpE (defs₀ (F := F)) 𝒱₀ (c : Thread nD τ) none) Set.univ (Scf.Loop.for k0_t1_loop k0_t1_ok ⟨⟩ (k0_t1_body (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4 c v2 v5 v7 mk x)) Q) := by
  have hn : k0_t1_loop.trips = 8 := by decide +kernel
  iintro ⟨#HI, H⟩ Hk
  iapply (Scf.wp_for frame (wpE (defs₀ (F := F)) 𝒱₀ (c : Thread nD τ) none) Set.univ k0_t1_loop.lb k0_t1_loop.ub k0_t1_loop.st k0_t1_ok ⟨⟩ _
    (fun k _ => iprop(invs w κ ∗ LInv w mk x kc vc c k)) (fun k acc => ?_))
  · iintro ⟨#HI, H⟩
    iapply (wp_wand_r frame (wpE (defs₀ (F := F)) 𝒱₀ (c : Thread nD τ) none) Set.univ)
    isplitl [H]
    · iapply (trip w κ mk x kc vc c v2 v5 v7 k)
      isplitr; · iexact HI
      iexact H
    iintro %a H
    isplitr; · iexact HI
    iexact H
  · isplitl [H]
    · isplitr; · iexact HI
      iexact H
    iintro %a
    iintro ⟨-, H⟩
    iapply Hk
    rw [show Scf.trips k0_t1_loop.lb k0_t1_loop.ub k0_t1_loop.st = 8 from hn]
    iexact H

end Cert.Gather

end
-- ==== Proof.Body.lean ====
/-
The kernel's body on one device: the handshake with both neighbours, the device's own weights put in place, the first
transfers started, its own part of the sum, and the loop.
-/
module

public import proofs.«01_k».proof.Proof.Loop
public import Idealize.ShloMosaic.Lib.Pipeline.Value

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S512x512.Idx → Elt F .bf16) (κ : GSem nD τ sig → ℕ)

/-! ## What the device starts from -/

/-- Half a landing slot of direction `d`, whatever it holds, and its receive cell open. -/
def land (d : Bool) (k s : ℕ) (c : Dev nD) : sProp 𝕄 :=
  iprop((∃ f, slabPt (F := F) c (base d + k + 1) s fullShare f) ∗ reached ER (rCell d k s c) 0)

/-- The landing slots of direction `d`. -/
def Landing (d : Bool) (c : Dev nD) : sProp 𝕄 := bigSep (Finset.range (hops d)) fun k => iprop(land d k 0 c ∗ land d k 1 c)

theorem handed_eq (d : Bool) (c : Dev nD) : handed (F := F) d (peer (!d) c) = Landing d c := by
  have h : peer d (peer (!d) c) = c := by have := peer_peer (!d) c; rwa [Bool.not_not] at this
  unfold handed Landing land; rw [h]

/-- A transfer's duties and places, without the half slot it lands in. -/
def PreFut (d : Bool) (k s : ℕ) (c : Dev nD) : sProp 𝕄 :=
  iprop(dutyTok ER (sCell d k s c) 0 false ∗ dutyTok ER (rCell d k s (peer d c)) 0 false
    ∗ reached ER (sCell d k s c) 0 ∗ atPos ER (sCell d k s c) 0 ∅ 0 ∗ atPos ER (rCell d k s c) 0 ∅ 0 ∗ cred (tallyAt (rCell d k s c) () N))

def PreFuts (d : Bool) (c : Dev nD) : sProp 𝕄 := bigSep (Finset.range (hops d)) fun k => iprop(PreFut (F := F) d k 0 c ∗ PreFut d k 1 c)

theorem fut_of (d : Bool) (k s : ℕ) (c : Dev nD) : iprop(PreFut (F := F) d k s c ∗ land d k s (peer d c)) ⊢ Fut d k s c := by
  unfold PreFut land Fut
  iintro ⟨⟨HtS, HtR, HrS, HaS, HaR, Hc⟩, Hf, HrR⟩
  isplitl [HtS]; · iexact HtS
  isplitl [HtR]; · iexact HtR
  isplitl [Hf]; · iexact Hf
  isplitl [HrS]; · iexact HrS
  isplitl [HrR]; · iexact HrR
  isplitl [HaS]; · iexact HaS
  isplitl [HaR]; · iexact HaR
  iexact Hc

theorem futs_of_one (d : Bool) (k : ℕ) (c : Dev nD) :
    iprop((PreFut (F := F) d k 0 c ∗ PreFut d k 1 c) ∗ land d k 0 (peer d c) ∗ land d k 1 (peer d c)) ⊢ Futs d k c := by
  unfold Futs
  iintro ⟨⟨H0, H1⟩, L0, L1⟩
  isplitl [H0 L0]
  · iapply (fut_of d k 0 c); isplitl [H0]; · iexact H0
    iexact L0
  · iapply (fut_of d k 1 c); isplitl [H1]; · iexact H1
    iexact L1

theorem futs_of (d : Bool) (c : Dev nD) :
    iprop(PreFuts (F := F) d c ∗ handed d c) ⊢ (bigSep (Finset.Ico 0 (hops d)) fun j => Futs d j c) := by
  unfold PreFuts
  rw [show handed (F := F) d c = bigSep (Finset.range (hops d)) fun k => iprop(land d k 0 (peer d c) ∗ land d k 1 (peer d c)) from rfl,
    show Finset.Ico 0 (hops d) = Finset.range (hops d) by ext j; simp only [Finset.mem_Ico, Finset.mem_range]; omega, ← bigSep_sep']
  exact bigSep_mono fun k _ => futs_of_one d k c

/-! ## The device's own weights put in place -/

/-- A whole slot, whatever it holds. -/
def slotAny (c : Dev nD) (j : ℕ) : sProp 𝕄 := iprop(∃ f, ((c : Thread nD τ).loc cc0_scratch0) ↦[slot j]{fullShare} f)

/-- The slot's contents in place, by the two shares of its two halves. -/
def slotIn (c : Dev nD) (j : ℕ) : sProp 𝕄 :=
  iprop(slabPt c j 0 fullShare.left (comm w c) ∗ slabPt c j 1 fullShare.left (comm w c) ∗ Rgt w j c)

theorem slotIn_of (c : Dev nD) (j : ℕ) :
    ((((c : Thread nD τ).loc cc0_scratch0) ↦[slot j]{fullShare} (comm w c)) : sProp 𝕄) ⊢ slotIn w c j := by
  have hu := pointsTo_union (Ix := Unit) (Name := ℕ) (U := UU) (Lvl := ℕ) (Val := Elt F) (ℓ := (c : Thread nD τ).loc cc0_scratch0) (I := slab j 0) (J := slab j 1)
    (q := fullShare) (f := comm w c) (slab_disjoint (j := j) (s := 0) (j' := j) (s' := 1) (.inr (by decide)))
  rw [← slot_eq] at hu
  have e0 := (slabPt_halves c j 0 (comm w c)).1
  have e1 := (slabPt_halves c j 1 (comm w c)).1
  unfold slotIn Rgt
  unfold slabPt at *
  iintro H
  ihave H1 := hu.1 $$ H
  icases H1 with ⟨H0, H1⟩
  ihave H0' := e0 $$ H0
  ihave H1' := e1 $$ H1
  icases H0' with ⟨HL0, HR0⟩
  icases H1' with ⟨HL1, HR1⟩
  isplitl [HL0]; · iexact HL0
  isplitl [HL1]; · iexact HL1
  isplitl [HR0]; · iexact HR0
  iexact HR1

theorem own_step (c : Dev nD) {j : ℕ} (hj : owner c j = c) {h h'} {v : FVec F S1x512x512 .bf16} (hv : ∀ x : S1x512x512.Idx, v x = w c (ix2 (x 1) (x 2)))
    {α : Type} {Q : α → sProp 𝕄} {hl hs hm} {k : PUnit → Prog (TpuEff nD τ sig (Elt F) Λ₀ .tc) α} :
    slotAny c j ⊢ iprop((slotIn w c j -∗ wp frame (wpE (defs₀ (F := F)) 𝒱₀ (c : Thread nD τ) none) Set.univ (k ⟨⟩) Q)
      -∗ wp frame (wpE (defs₀ (F := F)) 𝒱₀ (c : Thread nD τ) none) Set.univ (.op (.load cM (Rect.unit (s := S17x512x512) ![j, 0, 0] S1x512x512.size h).toLoadRect hl : TpuEff nD τ sig (Elt F) Λ₀ .tc (Vec F S1x512x512 .bf16)) fun _ =>
          .op (.store cM (Rect.unit (s := S17x512x512) ![j, 0, 0] S1x512x512.size h') v Finset.univ hs hm) k) Q) := by
  unfold slotAny
  iintro ⟨%f, H⟩ Hk
  iapply (wp_load 𝒱₀ (c : Thread nD τ) none Set.univ (m := cM) (S := slot j) (by rw [slot_set h rfl])) $$ H
  iintro H
  iapply (wp_store 𝒱₀ (c : Thread nD τ) none Set.univ (m := cM) (r := Rect.unit (s := S17x512x512) ![j, 0, 0] S1x512x512.size h') (S := slot j) (by
    rw [show (cM.access (Rect.unit (s := S17x512x512) ![j, 0, 0] S1x512x512.size h')).setOn Finset.univ
      = (cM.access (Rect.unit (s := S17x512x512) ![j, 0, 0] S1x512x512.size h')).set from rfl, View.set_slice]; rw [← slot_set h' rfl]; exact Finset.Subset.refl _)) $$ H
  iintro H
  iapply Hk
  iapply (slotIn_of w c j)
  iapply (Entails.of_eq (pointsTo_congr (stored_own w c hj h' f v hv))); iexact H

/-- A block's cast to one slot, read back. -/
theorem pay53_apply (f : FVec F S512x512 .bf16) (x : S1x512x512.Idx) : k0_pay53 f x = f (ix2 (x 1) (x 2)) := by
  unfold k0_pay53
  show shapeCast S1x512x512 (shapeCast S512x512 f shapeCasts_S512x512_S512x512) shapeCasts_S512x512_S1x512x512 x = _
  rw [shapeCast_self]
  refine (shapeCast_addUnit_apply ![512, 512] f shapeCasts_S512x512_S1x512x512 x).trans (congrArg f (funext fun a => ?_))
  match a with
  | ⟨0, _⟩ => rfl
  | ⟨1, _⟩ => rfl
theorem pay54_apply (f : FVec F S512x512 .bf16) (x : S1x512x512.Idx) : k0_pay54 f x = f (ix2 (x 1) (x 2)) := pay53_apply f x

/-! ## The barrier -/

/-- What the handshake takes. -/
def Hand (c : Dev nD) : sProp 𝕄 :=
  iprop(cred (tallyAt (barCell c) () 2) ∗ atPos ER (barCell c) 0 ∅ 0
    ∗ dutyTok ER (barCell (peer true c)) 0 false ∗ dutyTok ER (barCell (peer false c)) 0 true
    ∗ reached ER (barCell (peer true c)) 0 ∗ reached ER (barCell (peer false c)) 0)

theorem mayWait_bar (c : Dev nD) : (levAts L lv : sProp 𝕄) ⊢ MayWait (c : Thread nD τ) (.reg barS) () (owe (pend 0 0) c) :=
  mayWait_owe c (.reg barS) (ℓ := 1) (le_of_eq (lv_bar c)) (fun d k s h => by obtain ⟨-, h2, h3⟩ := mem_pend.mp h; exact ⟨h2, h3, by omega⟩)

theorem hand_step (c n1 n2 : Dev nD) (h1 : n1 = peer true c) (h2 : n2 = peer false c) (W : Waits sig Unit)
    {a1 a2 a3 : ℕ} (ha1 : a1 = 1) (ha2 : a2 = 1) (ha3 : a3 = 2) {α : Type} {Q : α → sProp 𝕄} {k : PUnit → Prog (TpuEff nD τ sig (Elt F) Λ₀ .tc) α} :
    iprop(invs w κ ∗ Hand c ∗ owes (c : Thread nD τ) (O₀ c) W ∗ Landing false c ∗ Landing true c)
      ⊢ iprop(((atPos ER (barCell c) 1 ∅ 0 ∗ handed false c ∗ handed true c ∗ (∃ W', owes (c : Thread nD τ) (owe (pend 0 0) c) W')) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n1 : Thread nD τ) barS a1) fun _ => .op (.semSignal (Dev.tc n2 : Thread nD τ) barS a2) fun _ => .op (.semWait barS a3) k) Q) := by
  subst h1 h2 ha1 ha2 ha3
  unfold Hand
  iintro ⟨#HI, ⟨Hc, Hat, Ht1, Ht2, #Hr1, #Hr2⟩, HO, HLf, HLt⟩ Hk
  ihave #HIc := (invs_bar w κ c) $$ HI
  ihave #HI1 := (invs_bar w κ (peer true c)) $$ HI
  ihave #HI2 := (invs_bar w κ (peer false c)) $$ HI
  ihave #Hlev := (invs_lev w κ) $$ HI
  unfold O₀
  iapply (Rounds.wp_signal 𝒱₀ ER (Rd w) (c : Thread nD τ) none (dst := (peer true c : Thread nD τ)) (κ := κ (barCell (peer true c)))
      (d := false) (by rw [duties_bar]; exact Finset.mem_univ _) (amount_bar w (peer true c) false) () (O₁ c) rfl) $$ [HO Ht1 HLf]
  · isplitr; · iexact HI1
    isplitl [HO]; · iexact HO
    isplitl [Ht1]; · iexact Ht1
    isplitl [HLf]
    · iapply (Entails.of_eq ((payload_bar w (peer true c) false).trans (handed_eq false c)).symm); iexact HLf
    iexact Hr1
  iintro HO
  unfold O₁
  iapply (Rounds.wp_signal 𝒱₀ ER (Rd w) (c : Thread nD τ) none (dst := (peer false c : Thread nD τ)) (κ := κ (barCell (peer false c)))
      (d := true) (by rw [duties_bar]; exact Finset.mem_univ _) (amount_bar w (peer false c) true) () (owe (pend 0 0) c) rfl) $$ [HO Ht2 HLt]
  · isplitr; · iexact HI2
    isplitl [HO]; · iexact HO
    isplitl [Ht2]; · iexact Ht2
    isplitl [HLt]
    · iapply (Entails.of_eq ((payload_bar w (peer false c) true).trans (handed_eq true c)).symm); iexact HLt
    iexact Hr2
  iintro HO
  iapply (Rounds.wp_wait_rest_token 𝒱₀ ER (Rd w) (c : Thread nD τ) none (κ := κ (barCell c))
      (wpE_semWait_eq 𝒱₀ (c : Thread nD τ) none Set.univ) (Set.mem_univ _) () (O := owe (pend 0 0) c) (W := W) (R := 0) (m := 0) (T := ∅)
      (by rw [expect_bar])) $$ [Hc HO Hat]
  · isplitr; · iexact HIc
    isplitl [Hc]; · iexact Hc
    isplitl [HO]; · iexact HO
    isplitr; · iapply (mayWait_bar c); iexact Hlev
    iexact Hat
  iintro ⟨HO, Hat, -, Hpay⟩
  ihave Hp := (Entails.of_eq (rest_bar w c)) $$ Hpay
  icases Hp with ⟨Hf, Ht⟩
  iapply Hk
  isplitl [Hat]; · iexact Hat
  isplitl [Hf]; · iexact Hf
  isplitl [Ht]; · iexact Ht
  iexists _; iexact HO

/-! ## The body -/

/-- The mask of device `c`'s rows. -/
def maskOf (c : Dev nD) : IVec S128x128 1 :=
  k0_pay50 (iota .tc S128x128 32 [1] iota_S128x128_d1_w32) (Scalar.muli (Scalar.remsi (Scalar.divsi (Dev.word c) 1#32) 16#32) 2#32) k0_pay47 k0_pay48 k0_pay49 0#32

variable (xf : S2x128x512.Idx → Elt F .f32) (kc vc : S64x2x128x64.Idx → Elt F .bf16)

def xPt (c : Dev nD) (f : S2x128x512.Idx → Elt F .f32) : sProp 𝕄 := ((c : Thread nD τ).loc cc0_stg0_0) ↦{fullShare} f
def wPt (c : Dev nD) (f : S512x512.Idx → Elt F .bf16) : sProp 𝕄 := ((c : Thread nD τ).loc cc0_stg1_0) ↦{fullShare} f

/-! ## Whole blocks read and written -/

theorem z2 : (![0, 0] : Fin 2 → ℕ) = fun _ => 0 := by decide
theorem z3 : (![0, 0, 0] : Fin 3 → ℕ) = fun _ => 0 := by decide

theorem x_step (c : Dev nD) (f : S2x128x512.Idx → Elt F .f32) {h hl} {α : Type} {Q : α → sProp 𝕄} {k : FVec F S2x128x512 .f32 → Prog (TpuEff nD τ sig (Elt F) Λ₀ .tc) α} :
    xPt c f ⊢ iprop((xPt c f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg0_0) (Rect.unit (s := S2x128x512) ![0, 0, 0] S2x128x512.size h).toLoadRect hl : TpuEff nD τ sig (Elt F) Λ₀ .tc (Vec F S2x128x512 .f32)) k) Q) := by
  unfold xPt
  iintro H Hk
  iapply (wp_load 𝒱₀ (c : Thread nD τ) none Set.univ (m := (Memref.whole cc0_stg0_0 : Memref sig .tc .vmem S2x128x512 .f32)) (S := Finset.univ) (Finset.subset_univ _)) $$ H
  iintro H
  rw [show ((Memref.whole cc0_stg0_0 : Memref sig .tc .vmem S2x128x512 .f32).view.readAt (Elt F) (Rect.unit (s := S2x128x512) ![0, 0, 0] S2x128x512.size h).toLoadRect f : Vec F S2x128x512 .f32) = f
    from Memref.readAt_unit_zero (Elt F) cc0_stg0_0 z3 _ f]
  iapply Hk; iexact H

theorem w_step (c : Dev nD) (f : S512x512.Idx → Elt F .bf16) {h hl} {α : Type} {Q : α → sProp 𝕄} {k : FVec F S512x512 .bf16 → Prog (TpuEff nD τ sig (Elt F) Λ₀ .tc) α} :
    wPt c f ⊢ iprop((wPt c f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg1_0) (Rect.unit (s := S512x512) ![0, 0] S512x512.size h).toLoadRect hl : TpuEff nD τ sig (Elt F) Λ₀ .tc (Vec F S512x512 .bf16)) k) Q) := by
  unfold wPt
  iintro H Hk
  iapply (wp_load 𝒱₀ (c : Thread nD τ) none Set.univ (m := (Memref.whole cc0_stg1_0 : Memref sig .tc .vmem S512x512 .bf16)) (S := Finset.univ) (Finset.subset_univ _)) $$ H
  iintro H
  rw [show ((Memref.whole cc0_stg1_0 : Memref sig .tc .vmem S512x512 .bf16).view.readAt (Elt F) (Rect.unit (s := S512x512) ![0, 0] S512x512.size h).toLoadRect f : Vec F S512x512 .bf16) = f
    from Memref.readAt_unit_zero (Elt F) cc0_stg1_0 z2 _ f]
  iapply Hk; iexact H

theorem zero_step (c : Dev nD) (f g : S2x128x512.Idx → Elt F .f32) {h h' hl hs hm} {α : Type} {Q : α → sProp 𝕄} {k : PUnit → Prog (TpuEff nD τ sig (Elt F) Λ₀ .tc) α} :
    oPt c f ⊢ iprop((oPt c g -∗ wp frame (wpE (defs₀ (F := F)) 𝒱₀ (c : Thread nD τ) none) Set.univ (k ⟨⟩) Q)
      -∗ wp frame (wpE (defs₀ (F := F)) 𝒱₀ (c : Thread nD τ) none) Set.univ (.op (.load oM (Rect.unit (s := S2x128x512) ![0, 0, 0] S2x128x512.size h).toLoadRect hl : TpuEff nD τ sig (Elt F) Λ₀ .tc (Vec F S2x128x512 .f32)) fun _ =>
        .op (.store oM (Rect.unit (s := S2x128x512) ![0, 0, 0] S2x128x512.size h') (g : FVec F S2x128x512 .f32) Finset.univ hs hm) k) Q) := by
  unfold oPt
  iintro H Hk
  iapply (wp_load 𝒱₀ (c : Thread nD τ) none Set.univ (m := oM) (S := Finset.univ) (Finset.subset_univ _)) $$ H
  iintro H
  iapply (wp_store 𝒱₀ (c : Thread nD τ) none Set.univ (m := oM) (r := Rect.unit (s := S2x128x512) ![0, 0, 0] S2x128x512.size h') (S := Finset.univ) (Finset.subset_univ _)) $$ H
  iintro H
  rw [show ((oM.access (Rect.unit (s := S2x128x512) ![0, 0, 0] S2x128x512.size h') : View sig .tc _ _ _).write (Elt F) f g Finset.univ : S2x128x512.Idx → Elt F .f32) = g
    from Memref.write_access_unit_zero_univ (Elt F) cc0_stg4_0 z3 _ f g]
  iapply Hk; iexact H

/-! ## The first transfers -/

theorem owner_base (d : Bool) (c : Dev nD) : owner c (base d) = c := by revert c; revert d; decide

theorem pend_start : ((((pend 0 0).erase (false, 0, 0)).erase (true, 0, 0)).erase (false, 0, 1)).erase (true, 0, 1) = pend 1 1 := by
  ext ⟨d, j, s⟩
  simp only [Finset.mem_erase, mem_pend, ne_eq, Prod.mk.injEq]
  cases d <;> simp only [if_true, if_false, Bool.false_eq_true, true_and, false_and, not_false_eq_true, reduceCtorEq] <;> omega

/-- A direction's state at the loop's start, once both halves of its own slot are on their way. -/
theorem dir_start (d : Bool) (hd : 0 < hops d) (c : Dev nD) :
    iprop(Rgt w (base d) c ∗ Act d 0 0 c ∗ Act d 0 1 c ∗ bigSep (Finset.Ico 1 (hops d)) fun j => Futs d j c) ⊢ DirInv w d 0 c := by
  unfold DirInv
  rw [ActO_pos w hd, ActO_pos w hd, Finset.range_zero, bigSep_empty]
  iintro ⟨HR, H0, H1, HF⟩
  isplitr; · iempintro
  isplitl [HR]; · iexact HR
  isplitl [H0 H1]
  · isplitl [H0]; · iexact H0
    iexact H1
  iexact HF

def BodyPre (c : Dev nD) (W : Waits sig Unit) (f4 : S2x128x512.Idx → Elt F .f32) : sProp 𝕄 :=
  iprop(invs w κ ∗ Hand c ∗ owes (c : Thread nD τ) (O₀ c) W ∗ (Landing false c ∗ Landing true c) ∗ (PreFuts false c ∗ PreFuts true c)
    ∗ (slotAny c 0 ∗ slotAny c 9) ∗ xPt c xf ∗ wPt c (w c) ∗ (kPt c kc ∗ vPt c vc) ∗ oPt c f4)

def BodyPost (c : Dev nD) : sProp 𝕄 :=
  iprop(LInv w (maskOf c) (k0_pay51 xf) kc vc c 8 ∗ atPos ER (barCell c) 1 ∅ 0 ∗ xPt c xf ∗ wPt c (w c))

set_option maxHeartbeats 1600000 in
theorem body_spec (c : Dev nD) (W : Waits sig Unit) (f4 : S2x128x512.Idx → Elt F .f32) {Q : PUnit → sProp 𝕄} :
    BodyPre w κ xf kc vc c W f4 ⊢ iprop((BodyPost w xf kc vc c -∗ |={Set.univ}=> Q ⟨⟩)
      -∗ wp frame (wpE (defs₀ (F := F)) 𝒱₀ (c : Thread nD τ) none) Set.univ (cc0_body (Memref.whole cc0_stg0_0) (Memref.isWhole_whole _) (Memref.whole cc0_stg1_0) (Memref.isWhole_whole _)
        kM (Memref.isWhole_whole _) vM (Memref.isWhole_whole _) oM (Memref.isWhole_whole _) cM (Memref.isWhole_whole _)
        cc0_scratch1 cc0_scratch2 cc0_scratch3 cc0_scratch4) Q) := by
  rw [cc0_body_eq_skeleton]; unfold cc0_body_skel
  simp only [k0_part12_eq_skeleton, k0_part13_eq_skeleton, k0_part14_eq_skeleton, k0_part15_eq_skeleton, k0_part16_eq_skeleton, k0_part17_eq_skeleton,
    k0_part18_eq_skeleton, k0_part19_eq_skeleton]
  unfold k0_part12_skel k0_part13_skel k0_part14_skel k0_part15_skel k0_part16_skel k0_part17_skel k0_part18_skel k0_part19_skel
  simp only [semSignalWord, semWaitWord, Prog.lift, Prog.bind_op, Prog.bind_ret, Prog.pure_eq_ret, Prog.bind_assoc, wp_deviceId]
  unfold BodyPre BodyPost
  iintro ⟨#HI, HH, HO, ⟨HLf, HLt⟩, ⟨HPf, HPt⟩, ⟨HS0, HS9⟩, Hx, Hw, HKV, Ho⟩ Hk
  iapply (hand_step w κ c _ _ (dev1_eq c) (dev2_eq c) W (by decide) (by decide) (by decide)) $$ [HH HO HLf HLt]
  · isplitr; · iexact HI
    isplitl [HH]; · iexact HH
    isplitl [HO]; · iexact HO
    isplitl [HLf]; · iexact HLf
    iexact HLt
  iintro ⟨Hbar, Hhf, Hht, ⟨%W1, HO⟩⟩
  iapply (x_step c xf) $$ Hx
  iintro Hx
  iapply (zero_step c f4 _) $$ Ho
  iintro Ho
  iapply (w_step c (w c)) $$ Hw
  iintro Hw
  iapply (own_step w c (j := 0) (owner_base false c) (pay53_apply (w c))) $$ HS0
  iintro HS0
  iapply (w_step c (w c)) $$ Hw
  iintro Hw
  iapply (own_step w c (j := 9) (owner_base true c) (pay54_apply (w c))) $$ HS9
  iintro HS9
  unfold slotIn
  icases HS0 with ⟨HL00, HL01, HR0⟩
  icases HS9 with ⟨HL90, HL91, HR9⟩
  ihave HFf := (futs_of false c) $$ [HPf Hhf]
  · isplitl [HPf]; · iexact HPf
    iexact Hhf
  ihave HFt := (futs_of true c) $$ [HPt Hht]
  · isplitl [HPt]; · iexact HPt
    iexact Hht
  have h8 : 0 < hops false := by decide
  have h7 : 0 < hops true := by decide
  ihave HFf' := (futs_next false 0 c) $$ HFf
  ihave HFt' := (futs_next true 0 c) $$ HFt
  rw [FutO_pos h8, FutO_pos h8, FutO_pos h7, FutO_pos h7]
  icases HFf' with ⟨⟨HF00, HF01⟩, HFf⟩
  icases HFt' with ⟨⟨HF90, HF91⟩, HFt⟩
  have hm0 : (false, 0, 0) ∈ pend 0 0 := pend_mem (by decide) h8
  have hm1 : (true, 0, 0) ∈ (pend 0 0).erase (false, 0, 0) := Finset.mem_erase.mpr ⟨by decide, pend_mem (by decide) h7⟩
  have hm2 : (false, 0, 1) ∈ ((pend 0 0).erase (false, 0, 0)).erase (true, 0, 0) :=
    Finset.mem_erase.mpr ⟨by decide, Finset.mem_erase.mpr ⟨by decide, pend_mem (by decide) h8⟩⟩
  have hm3 : (true, 0, 1) ∈ (((pend 0 0).erase (false, 0, 0)).erase (true, 0, 0)).erase (false, 0, 1) :=
    Finset.mem_erase.mpr ⟨by decide, Finset.mem_erase.mpr ⟨by decide, Finset.mem_erase.mpr ⟨by decide, pend_mem (by decide) h7⟩⟩⟩
  iapply (send_step w κ c _ (dev3_eq c) h8 (by decide) _ _ rfl rfl (cw_send_eq _ rfl h8 (by decide)) (cw_recv_eq _ rfl h8 (by decide)) hm0 W1) $$ [HF00 HL00 HO]
  · isplitr; · iexact HI
    isplitl [HF00]; · iexact HF00
    isplitl [HL00]; · iexact HL00
    iexact HO
  iintro ⟨HA00, HO⟩
  iapply (send_step w κ c _ (dev4_eq c) h7 (by decide) _ _ rfl rfl (ccw_send_eq _ rfl h7 (by decide)) (ccw_recv_eq _ rfl h7 (by decide)) hm1 W1) $$ [HF90 HL90 HO]
  · isplitr; · iexact HI
    isplitl [HF90]; · iexact HF90
    isplitl [HL90]; · iexact HL90
    iexact HO
  iintro ⟨HA90, HO⟩
  iapply (send_step w κ c _ (dev5_eq c) h8 (by decide) _ _ rfl rfl (cw_send_eq _ rfl h8 (by decide)) (cw_recv_eq _ rfl h8 (by decide)) hm2 W1) $$ [HF01 HL01 HO]
  · isplitr; · iexact HI
    isplitl [HF01]; · iexact HF01
    isplitl [HL01]; · iexact HL01
    iexact HO
  iintro ⟨HA01, HO⟩
  iapply (send_step w κ c _ (dev6_eq c) h7 (by decide) _ _ rfl rfl (ccw_send_eq _ rfl h7 (by decide)) (ccw_recv_eq _ rfl h7 (by decide)) hm3 W1) $$ [HF91 HL91 HO]
  · isplitr; · iexact HI
    isplitl [HF91]; · iexact HF91
    isplitl [HL91]; · iexact HL91
    iexact HO
  iintro ⟨HA91, HO⟩
  rw [pend_start]
  iapply (slot_step w c 0 rfl) $$ HR0
  iintro HR0
  rw [show owner c 0 = c from owner_base false c]
  iapply (heads_step c c kc vc (k0_off1_eq c) (k0_off1_eq c)) $$ HKV
  iintro HKV
  iapply (row0_step c _) $$ Ho
  iintro Ho
  iapply (row1_step c _) $$ Ho
  iintro Ho
  simp only [upd0_start, upd1_start]
  rw [wp_bind]
  iapply (trips w κ (maskOf c) (k0_pay51 xf) kc vc c _ _ _) $$ [HO HR0 HA00 HA01 HFf HR9 HA90 HA91 HFt HKV Ho]
  · isplitr; · iexact HI
    unfold LInv
    isplitl [HO]; · iexists _; iexact HO
    isplitl [HR0 HA00 HA01 HFf]
    · iapply (dir_start w false h8 c)
      isplitl [HR0]; · iexact HR0
      isplitl [HA00]; · iexact HA00
      isplitl [HA01]; · iexact HA01
      iexact HFf
    isplitl [HR9 HA90 HA91 HFt]
    · iapply (dir_start w true h7 c)
      isplitl [HR9]; · iexact HR9
      isplitl [HA90]; · iexact HA90
      isplitl [HA91]; · iexact HA91
      iexact HFt
    isplitl [HKV]; · iexact HKV
    iexact Ho
  iintro HL
  rw [wp_ret]
  iapply Hk
  isplitl [HL]; · iexact HL
  isplitl [Hbar]; · iexact Hbar
  isplitl [Hx]; · iexact Hx
  iexact Hw

end Cert.Gather

end
-- ==== Proof.Deal.lean ====
/-
What a device is dealt for the run and gives back: the communication buffer by its half slots, its cells opened and
closed, all arranged by transfer.
-/
module

public import proofs.«01_k».proof.Proof.Body
public import Idealize.SL.BI.BigOpNat

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the half transfers of a direction -/

/-- A family over the two halves of each of `n` transfers. -/
def Row (n : ℕ) (Φ : ℕ → ℕ → sProp 𝕄) : sProp 𝕄 := bigSep (Finset.range n) fun k => iprop(Φ k 0 ∗ Φ k 1)

theorem four (A B C D : sProp 𝕄) : iprop((A ∗ B) ∗ (C ∗ D)) = iprop((A ∗ C) ∗ (B ∗ D)) := by
  have h (A B C D : sProp 𝕄) : iprop((A ∗ B) ∗ (C ∗ D)) ⊢ iprop((A ∗ C) ∗ (B ∗ D)) := by
    iintro ⟨⟨HA, HB⟩, HC, HD⟩
    isplitl [HA HC]
    · isplitl [HA]; · iexact HA
      iexact HC
    · isplitl [HB]; · iexact HB
      iexact HD
  exact BI.Entails.antisymm (h A B C D) (h A C B D)

theorem row_sep (n : ℕ) (A B : ℕ → ℕ → sProp 𝕄) : Row (F := F) n (fun k s => iprop(A k s ∗ B k s)) = iprop(Row n A ∗ Row n B) := by
  unfold Row
  rw [← bigSep_sep']
  exact bigSep_congr fun k _ => four _ _ _ _

theorem pair_mono {A B A' B' : sProp 𝕄} (h : A ⊢ A') (h' : B ⊢ B') : iprop(A ∗ B) ⊢ iprop(A' ∗ B') := by
  iintro ⟨HA, HB⟩
  isplitl [HA]; · iapply h; iexact HA
  iapply h'; iexact HB

theorem row_mono {n : ℕ} {A B : ℕ → ℕ → sProp 𝕄} (h : ∀ k < n, ∀ s < 2, A k s ⊢ B k s) : Row (F := F) n A ⊢ Row n B := by
  unfold Row
  exact bigSep_mono fun k hk => pair_mono (h k (Finset.mem_range.mp hk) 0 (by decide)) (h k (Finset.mem_range.mp hk) 1 (by decide))

theorem sep_assoc_eq (A B C : sProp 𝕄) : iprop((A ∗ B) ∗ C) = iprop(A ∗ B ∗ C) := by
  refine BI.Entails.antisymm (show _ ⊢ (_ : sProp 𝕄) from ?_) (show _ ⊢ (_ : sProp 𝕄) from ?_)
  · iintro ⟨⟨HA, HB⟩, HC⟩
    isplitl [HA]; · iexact HA
    isplitl [HB]; · iexact HB
    iexact HC
  · iintro ⟨HA, HB, HC⟩
    isplitr [HC]
    · isplitl [HA]; · iexact HA
      iexact HB
    · iexact HC
theorem sep_comm_eq (A B : sProp 𝕄) : iprop(A ∗ B) = iprop(B ∗ A) := by
  have h (A B : sProp 𝕄) : iprop(A ∗ B) ⊢ iprop(B ∗ A) := by
    iintro ⟨HA, HB⟩
    isplitl [HB]; · iexact HB
    iexact HA
  exact BI.Entails.antisymm (h A B) (h B A)

/-- A run of `n + k` splits in two. -/
theorem run_add (n k : ℕ) (Φ : ℕ → sProp 𝕄) :
    bigSep (Finset.range (n + k)) Φ = iprop(bigSep (Finset.range n) Φ ∗ bigSep (Finset.range k) fun i => Φ (n + i)) := by
  induction k with
  | zero =>
    rw [Finset.range_zero, bigSep_empty]
    exact (BI.equiv_iff.mp sep_emp).symm
  | succ k ih =>
    rw [← Nat.add_assoc, bigSep_range_succ, ih, bigSep_range_succ, ← sep_assoc_eq, ← sep_assoc_eq, sep_comm_eq (Φ (n + k))]

/-- A run of twice `n` is a row. -/
theorem run_pairs (n : ℕ) (Φ : ℕ → sProp 𝕄) : bigSep (Finset.range (2 * n)) Φ = Row n fun k s => Φ (2 * k + s) := by
  unfold Row
  induction n with
  | zero => rfl
  | succ n ih =>
    rw [show 2 * (n + 1) = 2 * n + 2 from rfl, bigSep_range_succ, bigSep_range_succ, ih, bigSep_range_succ, ← sep_assoc_eq, sep_comm_eq (Φ (2 * n + 1))]
    rfl

theorem run_row (n b : ℕ) (Φ : ℕ → sProp 𝕄) {g : ℕ → ℕ → ℕ} (hg : ∀ k s, g k s = b + (2 * k + s)) :
    (bigSep (Finset.range (2 * n)) fun i => Φ (b + i)) = Row n fun k s => Φ (g k s) := by
  rw [run_pairs]
  exact congrArg (Row n) (funext fun k => funext fun s => congrArg Φ (hg k s).symm)

/-- The kernel's own semaphores, by the transfers' send and receive semaphores. -/
theorem run_sems (Φ : ℕ → sProp 𝕄) : (bigSep (Finset.range 60) fun i => Φ (5 + i))
    = iprop((Row (hops false) (fun k s => Φ (sIx false k s)) ∗ Row (hops false) (fun k s => Φ (rIx false k s)))
      ∗ Row (hops true) (fun k s => Φ (sIx true k s)) ∗ Row (hops true) (fun k s => Φ (rIx true k s))) := by
  rw [show (60 : ℕ) = (2 * 8 + 2 * 8) + (2 * 7 + 2 * 7) from rfl, run_add, run_add, run_add]
  show _ = iprop((Row 8 (fun k s => Φ (sIx false k s)) ∗ Row 8 (fun k s => Φ (rIx false k s))) ∗ Row 7 (fun k s => Φ (sIx true k s)) ∗ Row 7 (fun k s => Φ (rIx true k s)))
  rw [← run_row 8 5 Φ (g := fun k s => sIx false k s) (fun k s => Nat.add_assoc _ _ _), ← run_row 8 21 Φ (g := fun k s => rIx false k s) (fun k s => Nat.add_assoc _ _ _),
    ← run_row 7 37 Φ (g := fun k s => sIx true k s) (fun k s => Nat.add_assoc _ _ _), ← run_row 7 51 Φ (g := fun k s => rIx true k s) (fun k s => Nat.add_assoc _ _ _)]
  have e (a b n : ℕ) (h : 5 + a = b) : (bigSep (Finset.range n) fun i => Φ (5 + (a + i))) = bigSep (Finset.range n) fun i => Φ (b + i) :=
    bigSep_congr fun i _ => congrArg Φ (by omega)
  have e1 := e (2 * 8) 21 (2 * 8) rfl
  have e2 (n : ℕ) : (bigSep (Finset.range n) fun i => Φ (5 + (2 * 8 + 2 * 8 + i))) = bigSep (Finset.range n) fun i => Φ (37 + i) := e _ _ n rfl
  have e3 : (bigSep (Finset.range (2 * 7)) fun i => Φ (5 + (2 * 8 + 2 * 8 + (2 * 7 + i)))) = bigSep (Finset.range (2 * 7)) fun i => Φ (51 + i) :=
    bigSep_congr fun i _ => congrArg Φ (by omega)
  rw [e1, e2, e3]

theorem run_fin (Φ : ℕ → sProp 𝕄) (n : ℕ) : (bigSep Finset.univ fun i : Fin n => Φ i.val) = bigSep (Finset.range n) Φ := by
  rw [show Finset.range n = (Finset.univ : Finset (Fin n)).image fun i => i.val from by
    ext x; simp only [Finset.mem_range, Finset.mem_image, Finset.mem_univ, true_and]
    exact ⟨fun h => ⟨⟨x, h⟩, rfl⟩, fun ⟨i, h⟩ => h ▸ i.isLt⟩, bigSep_image_of_injOn (fun a _ b _ h => Fin.ext h)]

theorem run_ico (Φ : ℕ → sProp 𝕄) : bigSep (Finset.Ico 5 65) Φ = bigSep (Finset.range 60) fun i => Φ (5 + i) := by
  rw [show Finset.Ico 5 65 = (Finset.range 60).image fun i => 5 + i from by
    ext x; simp only [Finset.mem_Ico, Finset.mem_image, Finset.mem_range]
    exact ⟨fun h => ⟨x - 5, by omega, by omega⟩, fun ⟨i, h, e⟩ => by omega⟩, bigSep_image_of_injOn (fun a _ b _ h => Nat.add_left_cancel h)]

/-! ## The buffer taken apart and put together -/

variable (w : Dev nD → S512x512.Idx → Elt F .bf16) (κ : GSem nD τ sig → ℕ)

/-- Slot `j` of device `c`'s buffer held whole, at contents `f`. -/
def slotPt (c : Dev nD) (j : ℕ) (f : (cc0_scratch0 : Ref sig .tc).ty.Contents (Elt F)) : sProp 𝕄 :=
  ((c : Thread nD τ).loc cc0_scratch0) ↦[slot j]{fullShare} f

theorem slot_disjoint {j j' : ℕ} (h : j ≠ j') : Disjoint (slot j) (slot j') :=
  Finset.disjoint_left.mpr fun i hi hi' => h ((mem_slot.mp hi).symm.trans (mem_slot.mp hi'))

/-- The buffer by its slots: the two directions' first slots, and those the transfers land in. -/
theorem buffer_eq (c : Dev nD) (f : (cc0_scratch0 : Ref sig .tc).ty.Contents (Elt F)) :
    ((((c : Thread nD τ).loc cc0_scratch0) ↦{fullShare} f : sProp 𝕄))
      = iprop(bigSep (Finset.range (hops false + 1)) (fun k => slotPt c (base false + k) f) ∗ bigSep (Finset.range (hops true + 1)) fun k => slotPt c (base true + k) f) := by
  have h := pointsTo_biUnion (Ix := Unit) (Name := ℕ) (U := UU) (Lvl := ℕ) (Val := Elt F) (ℓ := (c : Thread nD τ).loc cc0_scratch0) (q := fullShare) (f := f)
    (Finset.range 17) slot (fun t _ t' _ hne => slot_disjoint hne)
  rw [← univ_eq] at h
  refine h.trans ?_
  rw [show (17 : ℕ) = (hops false + 1) + (hops true + 1) from rfl, run_add]
  refine congrArg₂ _ (bigSep_congr fun k _ => ?_) (bigSep_congr fun k _ => ?_)
  · rw [show base false + k = k from Nat.zero_add k]; rfl
  · rfl

theorem slot_halves (c : Dev nD) (j : ℕ) (f) : slotPt (F := F) c j f ⊣⊢ iprop(slabPt c j 0 fullShare f ∗ slabPt c j 1 fullShare f) := by
  have hu := pointsTo_union (Ix := Unit) (Name := ℕ) (U := UU) (Lvl := ℕ) (Val := Elt F) (ℓ := (c : Thread nD τ).loc cc0_scratch0) (I := slab j 0) (J := slab j 1)
    (q := fullShare) (f := f) (slab_disjoint (j := j) (s := 0) (j' := j) (s' := 1) (.inr (by decide)))
  rw [← slot_eq] at hu
  exact hu

/-- Before the run: a direction's first slot, and its landing slots. -/
theorem dir_begin (d : Bool) (c : Dev nD) (f) :
    (bigSep (Finset.range (hops d + 1)) fun k => slotPt (F := F) c (base d + k) f)
      ⊢ iprop(slotAny c (base d) ∗ Row (hops d) fun k s => iprop(∃ f, slabPt (F := F) c (base d + k + 1) s fullShare f)) := by
  rw [Nat.add_comm (hops d) 1, run_add, show Finset.range 1 = {0} from rfl, bigSep_singleton]
  refine pair_mono ?_ (bigSep_mono fun k _ => (slot_halves c _ f).1.trans ?_)
  · rw [Nat.add_zero]; unfold slotAny slotPt; iintro H; iexists f; iexact H
  · rw [show base d + (1 + k) = base d + k + 1 by omega]
    exact pair_mono (by iintro H; iexists f; iexact H) (by iintro H; iexists f; iexact H)

theorem slotIn_out (c : Dev nD) (j : ℕ) : slotIn w c j ⊢ slotPt c j (comm w c) := by
  refine (show slotIn w c j ⊢ _ from ?_).trans (slot_halves c j (comm w c)).2
  unfold slotIn Rgt
  iintro ⟨HL0, HL1, HR0, HR1⟩
  isplitl [HL0 HR0]
  · iapply (slabPt_halves c j 0 (comm w c)).2
    isplitl [HL0]; · iexact HL0
    iexact HR0
  · iapply (slabPt_halves c j 1 (comm w c)).2
    isplitl [HL1]; · iexact HL1
    iexact HR1

theorem past_out (d : Bool) (j : ℕ) (c : Dev nD) : Past w d j c
    ⊢ iprop(((atPos ER (sCell d j 0 c) 1 ∅ 0 ∗ atPos ER (sCell d j 1 c) 1 ∅ 0) ∗ (atPos ER (rCell d j 0 c) 1 ∅ 0 ∗ atPos ER (rCell d j 1 c) 1 ∅ 0))
      ∗ slotPt c (base d + j) (comm w c)) := by
  have h := slotIn_out w c (base d + j)
  unfold slotIn at h
  unfold Past Done
  iintro ⟨⟨HS0, HR0, HL0⟩, ⟨HS1, HR1, HL1⟩, HR⟩
  isplitr [HL0 HL1 HR]
  · isplitl [HS0 HS1]
    · isplitl [HS0]; · iexact HS0
      iexact HS1
    · isplitl [HR0]; · iexact HR0
      iexact HR1
  iapply h
  isplitl [HL0]; · iexact HL0
  isplitl [HL1]; · iexact HL1
  iexact HR

/-- After the run: every place of a direction's cells past its round, every slot whole. -/
theorem dir_end (d : Bool) (c : Dev nD) : DirInv w d (hops d) c
    ⊢ iprop((Row (hops d) (fun k s => atPos ER (sCell d k s c) 1 ∅ 0) ∗ Row (hops d) (fun k s => atPos ER (rCell d k s c) 1 ∅ 0))
      ∗ bigSep (Finset.range (hops d + 1)) fun k => slotPt c (base d + k) (comm w c)) := by
  have h := slotIn_out w c (base d + hops d)
  unfold slotIn at h
  have hp : (bigSep (Finset.range (hops d)) fun j => Past w d j c)
      ⊢ iprop((Row (hops d) (fun k s => atPos ER (sCell d k s c) 1 ∅ 0) ∗ Row (hops d) (fun k s => atPos ER (rCell d k s c) 1 ∅ 0))
        ∗ bigSep (Finset.range (hops d)) fun k => slotPt c (base d + k) (comm w c)) := by
    unfold Row; rw [← bigSep_sep', ← bigSep_sep']
    exact bigSep_mono fun j _ => past_out w d j c
  unfold DirInv
  rw [ActO_neg w (Nat.lt_irrefl _), ActO_neg w (Nat.lt_irrefl _), bigSep_range_succ]
  iintro ⟨HP, HR, ⟨HL0, HL1⟩, -⟩
  ihave HP' := hp $$ HP
  icases HP' with ⟨Hat, HS⟩
  isplitl [Hat]; · iexact Hat
  isplitr [HS]
  · iapply h
    isplitl [HL0]; · iexact HL0
    isplitl [HL1]; · iexact HL1
    iexact HR
  iexact HS

/-! ## The kernel's own cells, opened and closed -/

theorem inv_run (c : Dev nD) : invs (F := F) w κ ⊢ bigSep (Finset.range 60) fun i => cellInv ER (Rd w) (κ (dCell (5 + i) c)) (dCell (5 + i) c) := by
  refine bigSep_intro_persistent fun i hi => invs_dma w κ c ?_
  have := Finset.mem_range.mp hi
  omega

theorem own_open (c : Dev nD) : iprop(invs (F := F) w κ ∗ (bigSep (Finset.range 60) fun i => openTok ER (dCell (5 + i) c))
      ∗ bigSep (Finset.range 60) fun i => semVal (dCell (5 + i) c) 0)
    ⊢ |={Set.univ}=> bigSep (Finset.range 60) fun i => iprop(atPos ER (dCell (5 + i) c) 0 ∅ 0 ∗ reached ER (dCell (5 + i) c) 0) := by
  refine (show _ ⊢ _ from ?_).trans (cells_open ER (Rd (F := F) w) (Finset.range 60) (fun i => dCell (5 + i) c) (fun i => κ (dCell (5 + i) c)) (Es := Set.univ) (fun _ _ => Set.mem_univ _))
  rw [bigSep_sep']
  iintro ⟨#HI, Ho, Hv⟩
  isplitl [Ho]
  · isplitr; · iapply (inv_run w κ c); iexact HI
    iexact Ho
  iexact Hv

theorem own_close (c : Dev nD) : iprop(invs (F := F) w κ ∗ bigSep (Finset.range 60) fun i => atPos ER (dCell (5 + i) c) 1 ∅ 0)
    ⊢ |={Set.univ}=> bigSep (Finset.range 60) fun i => semVal (dCell (5 + i) c) 0 := by
  refine (show _ ⊢ _ from ?_).trans (cells_close ER (Rd (F := F) w) (Finset.range 60) (fun i => dCell (5 + i) c) (fun i => κ (dCell (5 + i) c)) (Es := Set.univ) (fun _ _ => Set.mem_univ _)
    (fun _ _ => id) (fun _ => 1) (fun i _ => duties_later w _))
  rw [bigSep_sep']
  iintro ⟨#HI, Ha⟩
  isplitr; · iapply (inv_run w κ c); iexact HI
  iexact Ha

theorem bar_close (c : Dev nD) : iprop(invs (F := F) w κ ∗ atPos ER (barCell c) 1 ∅ 0) ⊢ |={Set.univ}=> semVal (barCell c) 0 := by
  refine (show _ ⊢ _ from ?_).trans (cell_close ER (Rd (F := F) w) (κ := κ (barCell c)) (g := barCell c) (Es := Set.univ) (Set.mem_univ _) id (duties_later w _))
  iintro ⟨#HI, Ha⟩
  isplitr; · iapply (invs_bar w κ c); iexact HI
  iexact Ha

end Cert.Gather

end
-- ==== Proof.Fund.lean ====
/-
The launch: what the devices owe summed up to what their own waits consume, the protocol's cells and tokens made and
dealt, and what a device brings to the region.
-/
module

public import proofs.«01_k».proof.Proof.Deal
public import Idealize.SL.BI.BigOpNat

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (w : Dev nD → S512x512.Idx → Elt F .bf16)

/-! ## The dues, summed over the devices -/

def peerEquiv (d : Bool) : Dev nD ≃ Dev nD where
  toFun := peer d
  invFun := peer (!d)
  left_inv := peer_peer d
  right_inv c := by have := peer_peer (!d) c; rwa [Bool.not_not] at this

/-- What a device's own waits consume: two units at its barrier cell, a half slot's credit at each receive cell. -/
def Own (c : Dev nD) : CellTallies nD τ sig Unit :=
  (∑ x ∈ pend 0 0, tallyAt (rCell x.1 x.2.1 x.2.2 c) () N) + tallyAt (barCell c) () 2

theorem dues_sum : (∑ c : Dev nD, O₀ c) = ∑ c : Dev nD, Own c := by
  have hr : (∑ c : Dev nD, owe (pend 0 0) c) = ∑ c : Dev nD, ∑ x ∈ pend 0 0, (tallyAt (rCell x.1 x.2.1 x.2.2 c) () N : CellTallies nD τ sig Unit) := by
    unfold owe
    rw [Finset.sum_comm, Finset.sum_comm (s := Finset.univ)]
    exact Finset.sum_congr rfl fun x _ => Equiv.sum_comp (peerEquiv x.1) fun c => (tallyAt (rCell x.1 x.2.1 x.2.2 c) () N : CellTallies nD τ sig Unit)
  have hb (d : Bool) : (∑ c : Dev nD, (tallyAt (barCell (peer d c)) () 1 : CellTallies nD τ sig Unit)) = ∑ c : Dev nD, tallyAt (barCell c) () 1 :=
    Equiv.sum_comp (peerEquiv d) fun c => (tallyAt (barCell c) () 1 : CellTallies nD τ sig Unit)
  unfold O₀ O₁ Own
  rw [Finset.sum_add_distrib, Finset.sum_add_distrib, Finset.sum_add_distrib, hr, hb, hb, add_assoc, ← Finset.sum_add_distrib]
  refine congrArg _ (Finset.sum_congr rfl fun c _ => tallyAt_add _ _ _ _)

theorem own_cell (c : Dev nD) (g : GSem nD τ sig) (h : Own c g ≠ 0) : g.1 = (c.tc : Thread nD τ) := by
  by_contra hn
  refine h ?_
  have hz (sm : SemLoc sig) (n : ℕ) : (tallyAt ((c : Thread nD τ), sm) () n : CellTallies nD τ sig Unit) g = 0 :=
    tallyAt_ne_cell (fun e => hn (congrArg Prod.fst e)) () n
  unfold Own
  rw [Pi.add_apply, Finset.sum_apply, hz, add_zero]
  exact Finset.sum_eq_zero fun x _ => hz _ _

theorem pend_sum {M : Type} [AddCommMonoid M] (f : Bool × ℕ × ℕ → M) :
    (∑ x ∈ pend 0 0, f x) = (∑ k ∈ Finset.range (hops false), (f (false, k, 0) + f (false, k, 1))) + ∑ k ∈ Finset.range (hops true), (f (true, k, 0) + f (true, k, 1)) := by
  have hp : pend 0 0 = ({false} ×ˢ (Finset.range 8 ×ˢ Finset.range 2)) ∪ ({true} ×ˢ (Finset.range 7 ×ˢ Finset.range 2)) := by
    ext ⟨d, k, s⟩
    rw [mem_pend]
    simp only [Finset.mem_union, Finset.mem_product, Finset.mem_singleton, Finset.mem_range]
    cases d <;> simp only [hops, if_true, if_false, Bool.false_eq_true, reduceCtorEq, false_and, or_false, false_or, true_and] <;> omega
  have hd : Disjoint (({false} : Finset Bool) ×ˢ (Finset.range 8 ×ˢ Finset.range 2)) ({true} ×ˢ (Finset.range 7 ×ˢ Finset.range 2)) :=
    Finset.disjoint_left.mpr fun x h h' => by
      have h1 := Finset.mem_singleton.mp (Finset.mem_product.mp h).1
      have h2 := Finset.mem_singleton.mp (Finset.mem_product.mp h').1
      rw [h1] at h2; cases h2
  have hs (d : Bool) (n : ℕ) : (∑ x ∈ ({d} : Finset Bool) ×ˢ (Finset.range n ×ˢ Finset.range 2), f x) = ∑ k ∈ Finset.range n, (f (d, k, 0) + f (d, k, 1)) := by
    rw [Finset.sum_product, Finset.sum_singleton, Finset.sum_product]
    exact Finset.sum_congr rfl fun k _ => by rw [Finset.sum_range_succ, Finset.sum_range_one]
  rw [hp, Finset.sum_union hd, hs, hs]
  rfl

theorem cred_pair (a b : CellTallies nD τ sig Unit) : (cred (a + b) : sProp 𝕄) = iprop(cred a ∗ cred b) :=
  BI.Entails.antisymm (cred_add a b).1 (cred_add a b).2

theorem cred_row (d : Bool) (c : Dev nD) : (cred (∑ k ∈ Finset.range (hops d), (tallyAt (rCell d k 0 c) () N + tallyAt (rCell d k 1 c) () N : CellTallies nD τ sig Unit)) : sProp 𝕄)
    = Row (hops d) fun k s => cred (tallyAt (rCell d k s c) () N) := by
  unfold Row
  rw [Pipeline.cred_finsetSum]
  exact bigSep_congr fun k _ => cred_pair _ _

/-- The credit the launch deals a device. -/
def Creds (c : Dev nD) : sProp 𝕄 :=
  iprop(((Row (hops false) fun k s => cred (tallyAt (rCell false k s c) () N)) ∗ (Row (hops true) fun k s => cred (tallyAt (rCell true k s c) () N)))
    ∗ cred (tallyAt (barCell c) () 2))

theorem creds_eq (c : Dev nD) : (Pipeline.launchCred O₀ c : sProp 𝕄) = Creds c := by
  rw [Pipeline.launchCred_of_sum O₀ Own dues_sum own_cell c]
  unfold Own Creds
  rw [cred_pair, pend_sum (fun x => (tallyAt (rCell x.1 x.2.1 x.2.2 c) () N : CellTallies nD τ sig Unit)), cred_pair, cred_row, cred_row]

/-! ## The cells and their tokens -/

theorem dCell_inj {a b : Dev nD × Fin 60} (h : dCell (5 + a.2.val) a.1 = dCell (5 + b.2.val) b.1) : a = b := by
  have h1 : a.1 = b.1 := congrArg (fun g : GSem nD τ sig => g.1.1) h
  have h2 : (dsem (5 + a.2.val)).val = (dsem (5 + b.2.val)).val := congrArg (fun g : GSem nD τ sig => dIx g.2) h
  rw [dsem_val (by omega), dsem_val (by omega)] at h2
  exact Prod.ext h1 (Fin.ext (by omega))
theorem barCell_inj {a b : Dev nD} (h : barCell a = barCell b) : a = b := congrArg (fun g : GSem nD τ sig => g.1.1) h
theorem bar_ne_dma (a b : Dev nD) (q : ℕ) : barCell a ≠ dCell q b := fun h => by
  have : isBar (barCell a).2 = isBar (dCell q b).2 := congrArg (fun g : GSem nD τ sig => isBar g.2) h
  rw [isBar_bar, isBar_dma] at this
  cases this

/-- The barrier cells, and the kernel's own. -/
def cellsB : Finset (GSem nD τ sig) := (Finset.univ : Finset (Dev nD)).image barCell
def cellsD : Finset (GSem nD τ sig) := (Finset.univ : Finset (Dev nD × Fin 60)).image fun x => dCell (5 + x.2.val) x.1
/-- The duties: two at a barrier cell, one at each other. -/
def toksB : Finset (GSem nD τ sig × ℕ × Bool) := (Finset.univ : Finset (Dev nD × Bool)).image fun x => (barCell x.1, 0, x.2)
def toksD : Finset (GSem nD τ sig × ℕ × Bool) := (Finset.univ : Finset (Dev nD × Fin 60)).image fun x => (dCell (5 + x.2.val) x.1, 0, false)

theorem cells_disjoint : Disjoint cellsB cellsD := Finset.disjoint_left.mpr fun g h h' => by
  obtain ⟨a, -, rfl⟩ := Finset.mem_image.mp h
  obtain ⟨b, -, e⟩ := Finset.mem_image.mp h'
  exact bar_ne_dma _ _ _ e.symm
theorem toks_disjoint : Disjoint toksB toksD := Finset.disjoint_left.mpr fun g h h' => by
  obtain ⟨a, -, rfl⟩ := Finset.mem_image.mp h
  obtain ⟨b, -, e⟩ := Finset.mem_image.mp h'
  exact bar_ne_dma _ _ _ (congrArg Prod.fst e).symm

theorem bigSep_cellsB (Φ : GSem nD τ sig → sProp 𝕄) : bigSep cellsB Φ = bigSep Finset.univ fun c : Dev nD => Φ (barCell c) :=
  bigSep_image_of_injOn (fun _ _ _ _ h => barCell_inj h) Φ
theorem bigSep_cellsD (Φ : GSem nD τ sig → sProp 𝕄) : bigSep cellsD Φ = bigSep Finset.univ fun c : Dev nD => bigSep (Finset.range 60) fun i => Φ (dCell (5 + i) c) := by
  unfold cellsD
  rw [bigSep_image_of_injOn (fun _ _ _ _ h => dCell_inj h), bigSep_univ_prod]
  exact bigSep_congr fun c _ => run_fin (fun i => Φ (dCell (5 + i) c)) 60
theorem bigSep_toksB (Φ : GSem nD τ sig × ℕ × Bool → sProp 𝕄) :
    bigSep toksB Φ = bigSep Finset.univ fun c : Dev nD => iprop(Φ (barCell c, 0, false) ∗ Φ (barCell c, 0, true)) := by
  unfold toksB
  rw [bigSep_image_of_injOn (fun a _ b _ h => Prod.ext (barCell_inj (congrArg Prod.fst h)) (congrArg (fun y => y.2.2) h)), bigSep_univ_prod]
  exact bigSep_congr fun c _ => (bigSep_univ_eq_bigSepL [false, true] (by decide) (by decide) _)
theorem bigSep_toksD (Φ : GSem nD τ sig × ℕ × Bool → sProp 𝕄) :
    bigSep toksD Φ = bigSep Finset.univ fun c : Dev nD => bigSep (Finset.range 60) fun i => Φ (dCell (5 + i) c, 0, false) := by
  unfold toksD
  rw [bigSep_image_of_injOn (fun _ _ _ _ h => dCell_inj (congrArg Prod.fst h)), bigSep_univ_prod]
  exact bigSep_congr fun c _ => run_fin (fun i => Φ (dCell (5 + i) c, 0, false)) 60

/-! ## The deal -/

/-- The duties a device pays in a direction: its own send cells', its neighbour's receive cells'. -/
def Duties (d : Bool) (c : Dev nD) : sProp 𝕄 :=
  iprop((Row (hops d) fun k s => dutyTok ER (sCell d k s c) 0 false) ∗ Row (hops d) fun k s => dutyTok ER (rCell d k s (peer d c)) 0 false)
/-- The two barrier duties a device pays. -/
def BarDuties (c : Dev nD) : sProp 𝕄 := iprop(dutyTok ER (barCell (peer true c)) 0 false ∗ dutyTok ER (barCell (peer false c)) 0 true)

theorem bar_deal : (bigSep Finset.univ fun c : Dev nD => (iprop(dutyTok ER (barCell c) 0 false ∗ dutyTok ER (barCell c) 0 true) : sProp 𝕄))
    = bigSep Finset.univ fun c : Dev nD => BarDuties (F := F) c := by
  unfold BarDuties
  rw [bigSep_sep', bigSep_sep', bigSep_univ_equiv (peerEquiv true) (fun c : Dev nD => (dutyTok ER (barCell c) 0 false : sProp 𝕄)),
    bigSep_univ_equiv (peerEquiv false) (fun c : Dev nD => (dutyTok ER (barCell c) 0 true : sProp 𝕄))]
  rfl

theorem dma_deal : (bigSep Finset.univ fun c : Dev nD => bigSep (Finset.range 60) fun i => (dutyTok ER (dCell (5 + i) c) 0 false : sProp 𝕄))
    = bigSep Finset.univ fun c : Dev nD => iprop(Duties (F := F) false c ∗ Duties true c) := by
  rw [bigSep_congr fun c _ => run_sems fun q => (dutyTok ER (dCell q c) 0 false : sProp 𝕄)]
  unfold Duties
  rw [bigSep_sep', bigSep_sep', bigSep_sep', bigSep_sep', bigSep_sep', bigSep_sep',
    bigSep_univ_equiv (peerEquiv false) (fun c : Dev nD => Row (F := F) (hops false) fun k s => dutyTok ER (dCell (rIx false k s) c) 0 false),
    bigSep_univ_equiv (peerEquiv true) (fun c : Dev nD => Row (F := F) (hops true) fun k s => dutyTok ER (dCell (rIx true k s) c) 0 false)]
  rfl

/-- What a device is dealt of the protocol before the region: every cell's invariant, its own cells' openings, the
    duties it pays, the credit its waits consume, its place at its barrier cell. -/
def Dealt (c : Dev nD) : sProp 𝕄 :=
  iprop(∃ κ, invs w κ ∗ (bigSep (Finset.range 60) fun i => openTok ER (dCell (5 + i) c)) ∗ (Duties false c ∗ Duties true c)
    ∗ (BarDuties c ∗ atPos ER (barCell c) 0 ∅ 0 ∗ reached ER (barCell (peer true c)) 0 ∗ reached ER (barCell (peer false c)) 0) ∗ Creds c)

/-- The launch's cells and tokens, owned. -/
def launchEl : UB := launchOf cellsB cellsD (toksB ∪ toksD)

/-- The funding of any cells with any tokens, by the sets they come in. -/
theorem fund_sets {S Sd : Finset (GSem nD τ sig)} {T T' : Finset (GSem nD τ sig × ℕ × Bool)} (hS : Disjoint S Sd) (hT : Disjoint T T') :
    iprop(bigSep S (fun g => (semVal g 0 : sProp 𝕄)) ∗ BI.own (ER (launchOf S Sd (T ∪ T'))))
      ⊢ (|={Set.univ}=> ∃ κ : GSem nD τ sig → ℕ, (bigSep S (fun g => cellInv ER (Rd (F := F) w) (κ g) g) ∗ bigSep Sd (fun g => cellInv ER (Rd (F := F) w) (κ g) g))
          ∗ bigSep S (fun g => reached ER g 0) ∗ bigSep S (fun g => atPos ER g 0 ∅ 0) ∗ bigSep Sd (fun g => openTok ER g)
          ∗ bigSep T (fun x => dutyTok ER x.1 x.2.1 x.2.2) ∗ bigSep T' (fun x => dutyTok ER x.1 x.2.1 x.2.2) : sProp 𝕄) := by
  have e (Φ : GSem nD τ sig → sProp 𝕄) : bigSep (S ∪ Sd) Φ ⊢ iprop(bigSep S Φ ∗ bigSep Sd Φ) := Entails.of_eq (bigSep_union hS)
  have e' (Φ : GSem nD τ sig × ℕ × Bool → sProp 𝕄) : bigSep (T ∪ T') Φ ⊢ iprop(bigSep T Φ ∗ bigSep T' Φ) := Entails.of_eq (bigSep_union hT)
  iintro H
  imod (fund_launch ER (Rd (F := F) w) hS (fun g _ => id) (T ∪ T') (Es := Set.univ)) $$ H with ⟨%κ, -, HI, HR, HA, HO, HT⟩
  imodintro
  iexists κ
  isplitl [HI]; · iapply e; iexact HI
  isplitl [HR]; · iexact HR
  isplitl [HA]; · iexact HA
  isplitl [HO]; · iexact HO
  iapply e'; iexact HT

theorem invs_intro (κ : GSem nD τ sig → ℕ) :
    iprop((bigSep cellsB (fun g => cellInv ER (Rd (F := F) w) (κ g) g) ∗ bigSep cellsD (fun g => cellInv ER (Rd (F := F) w) (κ g) g)) ∗ levAts L lv) ⊢ invs w κ := by
  unfold invs
  rw [bigSep_cellsB, bigSep_cellsD, bigSep_congr (s := (Finset.univ : Finset (Dev nD))) fun c _ => run_ico fun q => cellInv ER (Rd (F := F) w) (κ (dCell q c)) (dCell q c)]
  iintro ⟨⟨HB, HD⟩, HL⟩
  isplitl [HB]; · iexact HB
  isplitl [HD]; · iexact HD
  iexact HL

theorem bars_reached : (bigSep Finset.univ fun c : Dev nD => (reached ER (barCell c) 0 : sProp 𝕄))
    ⊢ bigSep Finset.univ fun c : Dev nD => iprop(reached ER (barCell (peer true c)) 0 ∗ reached ER (barCell (peer false c)) 0) := by
  refine bigSep_intro_persistent fun c _ => ?_
  iintro #H
  isplitr
  · iapply (bigSep_take (Finset.mem_univ (peer true c)) (Φ := fun c : Dev nD => (reached ER (barCell c) 0 : sProp 𝕄))); iexact H
  · iapply (bigSep_take (Finset.mem_univ (peer false c)) (Φ := fun c : Dev nD => (reached ER (barCell c) 0 : sProp 𝕄))); iexact H

theorem dealt_of (κ : GSem nD τ sig → ℕ) (c : Dev nD) :
    iprop(invs w κ ∗ (bigSep (Finset.range 60) fun i => openTok ER (dCell (5 + i) c)) ∗ (Duties false c ∗ Duties true c)
      ∗ (BarDuties c ∗ atPos ER (barCell c) 0 ∅ 0 ∗ reached ER (barCell (peer true c)) 0 ∗ reached ER (barCell (peer false c)) 0) ∗ Creds c) ⊢ Dealt w c := by
  unfold Dealt; iintro H; iexists κ; iexact H

/-- Any cells and tokens funded, `fund_sets` with the launch's in their place. -/
theorem fund_ours : iprop((bigSep Finset.univ fun c : Dev nD => semVal (barCell c) 0) ∗ BI.own (ER launchEl))
      ⊢ (|={Set.univ}=> ∃ κ : GSem nD τ sig → ℕ, (bigSep cellsB (fun g => cellInv ER (Rd (F := F) w) (κ g) g) ∗ bigSep cellsD (fun g => cellInv ER (Rd (F := F) w) (κ g) g))
          ∗ bigSep cellsB (fun g => reached ER g 0) ∗ bigSep cellsB (fun g => atPos ER g 0 ∅ 0) ∗ bigSep cellsD (fun g => openTok ER g)
          ∗ bigSep toksB (fun x => dutyTok ER x.1 x.2.1 x.2.2) ∗ bigSep toksD (fun x => dutyTok ER x.1 x.2.1 x.2.2) : sProp 𝕄) := by
  rw [← bigSep_cellsB fun g => (semVal g 0 : sProp 𝕄)]
  exact fund_sets w cells_disjoint toks_disjoint

theorem reached_deal : (bigSep cellsB fun g => (reached ER g 0 : sProp 𝕄))
    ⊢ bigSep Finset.univ fun c : Dev nD => iprop(reached ER (barCell (peer true c)) 0 ∗ reached ER (barCell (peer false c)) 0) := by
  rw [bigSep_cellsB]; exact bars_reached
theorem at_deal : (bigSep cellsB fun g => (atPos ER g 0 ∅ 0 : sProp 𝕄)) = bigSep Finset.univ fun c : Dev nD => atPos ER (barCell c) 0 ∅ 0 := bigSep_cellsB _
theorem open_deal : (bigSep cellsD fun g => (openTok ER g : sProp 𝕄)) = bigSep Finset.univ fun c : Dev nD => bigSep (Finset.range 60) fun i => openTok ER (dCell (5 + i) c) := bigSep_cellsD _
theorem toksB_deal : (bigSep toksB fun x => (dutyTok ER x.1 x.2.1 x.2.2 : sProp 𝕄)) = bigSep Finset.univ fun c : Dev nD => BarDuties c := by
  rw [bigSep_toksB]; exact bar_deal
theorem toksD_deal : (bigSep toksD fun x => (dutyTok ER x.1 x.2.1 x.2.2 : sProp 𝕄)) = bigSep Finset.univ fun c : Dev nD => iprop(Duties false c ∗ Duties true c) := by
  rw [bigSep_toksD]; exact dma_deal
theorem creds_deal : (bigSep Finset.univ fun c : Dev nD => (Pipeline.launchCred O₀ c : sProp 𝕄)) = bigSep Finset.univ fun c : Dev nD => Creds c :=
  bigSep_congr fun c _ => creds_eq c

theorem each_join (I : sProp 𝕄) [BI.Persistent I] (O D B A R C : Dev nD → sProp 𝕄) :
    iprop(I ∗ bigSep Finset.univ O ∗ bigSep Finset.univ D ∗ (bigSep Finset.univ B ∗ bigSep Finset.univ A ∗ bigSep Finset.univ R) ∗ bigSep Finset.univ C)
      ⊢ bigSep Finset.univ fun c : Dev nD => iprop(I ∗ O c ∗ D c ∗ (B c ∗ A c ∗ R c) ∗ C c) := by
  rw [bigSep_sep', bigSep_sep', bigSep_sep', bigSep_sep', bigSep_sep', bigSep_sep']
  iintro ⟨#HI, H⟩
  isplitr
  · iapply (bigSep_intro_persistent (S := (Finset.univ : Finset (Dev nD))) (R := I) (Φ := fun _ => I) fun _ _ => Entails.refl _); iexact HI
  iexact H

theorem deal_join (κ : GSem nD τ sig → ℕ) :
    iprop(invs w κ ∗ (bigSep Finset.univ fun c : Dev nD => bigSep (Finset.range 60) fun i => openTok ER (dCell (5 + i) c))
      ∗ (bigSep Finset.univ fun c : Dev nD => iprop(Duties false c ∗ Duties true c))
      ∗ ((bigSep Finset.univ fun c : Dev nD => BarDuties c) ∗ (bigSep Finset.univ fun c : Dev nD => atPos ER (barCell c) 0 ∅ 0)
        ∗ (bigSep Finset.univ fun c : Dev nD => iprop(reached ER (barCell (peer true c)) 0 ∗ reached ER (barCell (peer false c)) 0)))
      ∗ bigSep Finset.univ fun c : Dev nD => Creds c)
    ⊢ bigSep Finset.univ fun c : Dev nD => Dealt w c := by
  exact (each_join (invs w κ) _ _ _ _ _ _).trans (bigSep_mono fun c _ => dealt_of w κ c)

/-- The launch's update: from every barrier counter at zero, the protocol's cells and tokens, the levels and the credit,
    each device its share. -/
theorem deal : iprop((bigSep Finset.univ fun c : Dev nD => semVal (barCell c) 0) ∗ BI.own (ER launchEl) ∗ (bigSep Finset.univ fun c : Dev nD => Pipeline.launchCred O₀ c) ∗ levAts L lv)
    ⊢ (|={Set.univ}=> bigSep Finset.univ fun c : Dev nD => Dealt w c : sProp 𝕄) := by
  iintro ⟨HS, HU, HC, HL⟩
  imod (fund_ours w) $$ [HS HU] with ⟨%κ, HI, HR, HA, HO, HTB, HTD⟩
  · isplitl [HS]; · iexact HS
    iexact HU
  imodintro
  iapply (deal_join w κ)
  isplitl [HI HL]
  · iapply (invs_intro w κ)
    isplitl [HI]; · iexact HI
    iexact HL
  isplitl [HO]; · iapply (Entails.of_eq open_deal); iexact HO
  isplitl [HTD]; · iapply (Entails.of_eq toksD_deal); iexact HTD
  isplitr [HC]
  · isplitl [HTB]; · iapply (Entails.of_eq toksB_deal); iexact HTB
    isplitl [HA]; · iapply (Entails.of_eq at_deal); iexact HA
    iapply reached_deal; iexact HR
  iapply (Entails.of_eq creds_deal); iexact HC

/-! ## At the region's entry -/

theorem pre_futs (d : Bool) (c : Dev nD) :
    iprop(Duties (F := F) d c ∗ (Row (hops d) fun k s => iprop(atPos ER (sCell d k s c) 0 ∅ 0 ∗ reached ER (sCell d k s c) 0))
      ∗ (Row (hops d) fun k s => atPos ER (rCell d k s c) 0 ∅ 0) ∗ Row (hops d) fun k s => cred (tallyAt (rCell d k s c) () N)) ⊢ PreFuts d c := by
  unfold Duties
  rw [sep_assoc_eq, ← row_sep (hops d) _ (fun k s => cred (tallyAt (rCell d k s c) () N)), ← row_sep, ← row_sep, ← row_sep]
  refine (row_mono fun k _ s _ => show _ ⊢ PreFut (F := F) d k s c from ?_)
  unfold PreFut
  iintro ⟨H1, H2, ⟨H3, H4⟩, H5, H6⟩
  isplitl [H1]; · iexact H1
  isplitl [H2]; · iexact H2
  isplitl [H4]; · iexact H4
  isplitl [H3]; · iexact H3
  isplitl [H5]; · iexact H5
  iexact H6

theorem landing_of (d : Bool) (c : Dev nD) :
    iprop((Row (hops d) fun k s => iprop(∃ f, slabPt (F := F) c (base d + k + 1) s fullShare f)) ∗ Row (hops d) fun k s => reached ER (rCell d k s c) 0) ⊢ Landing d c := by
  rw [← row_sep]
  exact Entails.refl _

/-- What enters the region's invariant of the protocol. -/
def Enter (c : Dev nD) : sProp 𝕄 :=
  iprop(∃ κ, invs w κ ∗ Hand c ∗ (PreFuts false c ∗ PreFuts true c)
    ∗ (Row (hops false) fun k s => reached ER (rCell false k s c) 0) ∗ Row (hops true) fun k s => reached ER (rCell true k s c) 0)

theorem enter (c : Dev nD) : iprop(Dealt w c ∗ bigSep (Finset.range 60) fun i => semVal (dCell (5 + i) c) 0) ⊢ |={Set.univ}=> Enter w c := by
  unfold Dealt Creds
  iintro ⟨⟨%κ, #HI, HO, ⟨HDf, HDt⟩, ⟨HB, HA, #HR1, #HR2⟩, ⟨⟨HCf, HCt⟩, HCb⟩⟩, HV⟩
  imod (own_open w κ c) $$ [HO HV] with HP
  · isplitr; · iexact HI
    isplitl [HO]; · iexact HO
    iexact HV
  imodintro
  ihave HP' := (Entails.of_eq (run_sems fun q => (iprop(atPos ER (dCell q c) 0 ∅ 0 ∗ reached ER (dCell q c) 0) : sProp 𝕄))) $$ HP
  icases HP' with ⟨⟨HSf, HRf⟩, HSt, HRt⟩
  ihave HRf' := (Entails.of_eq (row_sep (hops false) (fun k s => atPos ER (rCell false k s c) 0 ∅ 0) fun k s => (reached ER (rCell false k s c) 0 : sProp 𝕄))) $$ HRf
  ihave HRt' := (Entails.of_eq (row_sep (hops true) (fun k s => atPos ER (rCell true k s c) 0 ∅ 0) fun k s => (reached ER (rCell true k s c) 0 : sProp 𝕄))) $$ HRt
  icases HRf' with ⟨HRf, Hrf⟩
  icases HRt' with ⟨HRt, Hrt⟩
  unfold Enter
  iexists κ
  isplitr; · iexact HI
  isplitl [HB HA HCb]
  · unfold Hand BarDuties
    icases HB with ⟨HB1, HB2⟩
    isplitl [HCb]; · iexact HCb
    isplitl [HA]; · iexact HA
    isplitl [HB1]; · iexact HB1
    isplitl [HB2]; · iexact HB2
    isplitr; · iexact HR1
    iexact HR2
  isplitl [HDf HDt HCf HCt HSf HSt HRf HRt]
  · isplitl [HDf HCf HSf HRf]
    · iapply (pre_futs false c)
      isplitl [HDf]; · iexact HDf
      isplitl [HSf]; · iexact HSf
      isplitl [HRf]; · iexact HRf
      iexact HCf
    · iapply (pre_futs true c)
      isplitl [HDt]; · iexact HDt
      isplitl [HSt]; · iexact HSt
      isplitl [HRt]; · iexact HRt
      iexact HCt
  isplitl [Hrf]; · iexact Hrf
  iexact Hrt

end Cert.Gather

end
-- ==== Proof.Region.lean ====
/-
The pipelined region of one device: what its windows stage, its invariant before and after the one point, and the
body's obligation.
-/
module

public import proofs.«01_k».proof.Proof.Fund
public import Idealize.ShloMosaic.Lib.Pipeline.Regions
public import Idealize.SL.BI.BigOpNat

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]

local notation "𝕄" => MT nD τ sig Unit (Elt F) ℕ UU ℕ

/-! ## The body from the region's invariant, and back to it -/

section Region

variable (w : Dev nD → S512x512.Idx → Elt F .bf16)
variable (xf : S2x128x512.Idx → Elt F .f32) (kc vc : S64x2x128x64.Idx → Elt F .bf16)

/-- The communication buffer, whatever it holds. -/
def Scratch (c : Dev nD) : sProp 𝕄 := iprop(∃ f : Buf (Elt F) ((c : Thread nD τ).loc cc0_scratch0), ((c : Thread nD τ).loc cc0_scratch0) ↦{fullShare} f)

/-- What leaves the region's invariant of the protocol. -/
def Leave (c : Dev nD) : sProp 𝕄 := iprop(∃ κ, invs w κ ∗ atPos ER (barCell c) 1 ∅ 0)

def SemsZero (c : Dev nD) : sProp 𝕄 := bigSep (Finset.range 60) fun i => semVal (dCell (5 + i) c) 0

/-- What the five windows stage, as the body holds it. -/
theorem staged (c : Dev nD) (f0 : S2x128x512.Idx → Elt F .f32) (f1 : S512x512.Idx → Elt F .bf16) (f2 f3 : S64x2x128x64.Idx → Elt F .bf16)
    (f4 : S2x128x512.Idx → Elt F .f32) :
    iprop(xPt c f0 ∗ wPt c f1 ∗ (kPt c f2 ∗ vPt c f3) ∗ oPt c f4)
      = iprop((((c : Thread nD τ).loc cc0_stg0_0) ↦{fullShare} f0) ∗ (((c : Thread nD τ).loc cc0_stg1_0) ↦{fullShare} f1)
        ∗ ((((c : Thread nD τ).loc cc0_stg2_0) ↦{fullShare} f2) ∗ (((c : Thread nD τ).loc cc0_stg3_0) ↦{fullShare} f3))
        ∗ (((c : Thread nD τ).loc cc0_stg4_0) ↦{fullShare} f4)) := rfl

theorem body_begin (c : Dev nD) (W : Waits sig Unit) (f4 : S2x128x512.Idx → Elt F .f32) :
    iprop((Enter w c ∗ Scratch c) ∗ owes (c : Thread nD τ) (O₀ c) W ∗ xPt c xf ∗ wPt c (w c) ∗ (kPt c kc ∗ vPt c vc) ∗ oPt c f4)
      ⊢ iprop(∃ κ, invs w κ ∗ BodyPre w κ xf kc vc c W f4) := by
  unfold Enter Scratch
  iintro ⟨⟨⟨%κ, #HI, HH, HP, Hrf, Hrt⟩, ⟨%f, HS⟩⟩, HO, Hx, Hw, HKV, Ho⟩
  iexists κ
  isplitr; · iexact HI
  ihave HS' := (Entails.of_eq (buffer_eq c f)) $$ HS
  icases HS' with ⟨HSf, HSt⟩
  ihave HSf' := (dir_begin false c f) $$ HSf
  ihave HSt' := (dir_begin true c f) $$ HSt
  icases HSf' with ⟨H0, HLf⟩
  icases HSt' with ⟨H9, HLt⟩
  unfold BodyPre
  isplitr; · iexact HI
  isplitl [HH]; · iexact HH
  isplitl [HO]; · iexact HO
  isplitl [HLf HLt Hrf Hrt]
  · isplitl [HLf Hrf]
    · iapply (landing_of false c)
      isplitl [HLf]; · iexact HLf
      iexact Hrf
    · iapply (landing_of true c)
      isplitl [HLt]; · iexact HLt
      iexact Hrt
  isplitl [HP]; · iexact HP
  isplitl [H0 H9]
  · isplitl [H0]; · iexact H0
    iexact H9
  isplitl [Hx]; · iexact Hx
  isplitl [Hw]; · iexact Hw
  isplitl [HKV]; · iexact HKV
  iexact Ho

theorem owe_end (c : Dev nD) : owe (pend (8 + 1) (8 + 1)) c = 0 := by
  have h : pend (8 + 1) (8 + 1) = ∅ := Finset.eq_empty_of_forall_notMem fun ⟨d, k, s⟩ hm => by
    obtain ⟨h1, h2, -⟩ := mem_pend.mp hm
    cases d <;> simp only [hops, if_true, if_false, Bool.false_eq_true] at h1 h2 <;> omega
  unfold owe; rw [h, Finset.sum_empty]

theorem body_end (κ : GSem nD τ sig → ℕ) (c : Dev nD) :
    iprop(invs w κ ∗ BodyPost w xf kc vc c)
      ⊢ |={Set.univ}=> iprop((Leave w c ∗ SemsZero c ∗ Scratch c) ∗ (∃ W, owes (c : Thread nD τ) 0 W) ∗ xPt c xf ∗ wPt c (w c) ∗ (kPt c kc ∗ vPt c vc)
        ∗ oPt c (outAt w (maskOf c) (k0_pay51 xf) kc vc c 8)) := by
  unfold BodyPost LInv
  rw [owe_end]
  have ht : DirInv w true (min 8 7) c ⊢ _ := dir_end w true c
  have hf : DirInv w false 8 c ⊢ _ := dir_end w false c
  iintro ⟨#HI, ⟨HO, HDf, HDt, HKV, Ho⟩, Hb, Hx, Hw⟩
  ihave HDf' := hf $$ HDf
  ihave HDt' := ht $$ HDt
  icases HDf' with ⟨Haf, HSf⟩
  icases HDt' with ⟨Hat, HSt⟩
  ihave Ha := (Entails.of_eq (run_sems fun q => (atPos ER (dCell q c) 1 ∅ 0 : sProp 𝕄)).symm) $$ [Haf Hat]
  · isplitl [Haf]; · iexact Haf
    iexact Hat
  imod (own_close w κ c) $$ [Ha] with HV
  · isplitr; · iexact HI
    iexact Ha
  imodintro
  isplitl [HV HSf HSt Hb]
  · isplitl [Hb]
    · unfold Leave; iexists κ
      isplitr; · iexact HI
      iexact Hb
    isplitl [HV]; · unfold SemsZero; iexact HV
    unfold Scratch; iexists (comm w c)
    iapply (Entails.of_eq (buffer_eq c (comm w c)).symm)
    isplitl [HSf]; · iexact HSf
    iexact HSt
  isplitl [HO]; · iexact HO
  isplitl [Hx]; · iexact Hx
  isplitl [Hw]; · iexact Hw
  isplitl [HKV]; · iexact HKV
  iexact Ho

end Region

/-! ## The region's proof data -/

variable (m : (ℓ : Loc nD τ sig) → Buf (Elt F) ℓ) (ρ : Dev nD → PrngReg)

/-- What the windows stage: the device's rows of `x`, its weights, the keys and the values. -/
abbrev xIn (c : Dev nD) : S2x128x512.Idx → Elt F .f32 := ((cfg0.win 0).blk t0_0).view.read (Elt F) (V m c (Pipeline.arrRef spec0 0))
abbrev wIn (c : Dev nD) : S512x512.Idx → Elt F .bf16 := ((cfg0.win 1).blk t0_0).view.read (Elt F) (V m c (Pipeline.arrRef spec0 1))
abbrev kIn (c : Dev nD) : S64x2x128x64.Idx → Elt F .bf16 := ((cfg0.win 2).blk t0_0).view.read (Elt F) (V m c (Pipeline.arrRef spec0 2))
abbrev vIn (c : Dev nD) : S64x2x128x64.Idx → Elt F .bf16 := ((cfg0.win 3).blk t0_0).view.read (Elt F) (V m c (Pipeline.arrRef spec0 3))

/-- What the result window holds after the body. -/
def outVal (c : Dev nD) : S2x128x512.Idx → Elt F .f32 := outAt (wIn m) (maskOf c) (k0_pay51 (xIn m c)) (kIn m c) (vIn m c) c 8

def dat0 (c : Dev nD) : Pipeline.Dat τ (Elt F) Unit ℕ UU ℕ cfg0 c where
  A w := V m c (Pipeline.arrRef spec0 w)
  after w _ := match w with
    | ⟨0, _⟩ => xIn m c
    | ⟨1, _⟩ => wIn m c
    | ⟨2, _⟩ => kIn m c
    | ⟨3, _⟩ => vIn m c
    | ⟨4, _⟩ => outVal m c
  Φ t := if t.val = 0 then iprop(Enter (wIn m) c ∗ Scratch c) else iprop(Leave (wIn m) c ∗ SemsZero c ∗ Scratch c)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem before0 (c : Dev nD) (d) : (dat0 m c).before 0 t0_0 d = xIn m c := by unfold Pipeline.Dat.before; rw [if_pos (by decide)]; rfl
theorem before1 (c : Dev nD) (d) : (dat0 m c).before 1 t0_0 d = wIn m c := by unfold Pipeline.Dat.before; rw [if_pos (by decide)]; rfl
theorem before2 (c : Dev nD) (d) : (dat0 m c).before 2 t0_0 d = kIn m c := by unfold Pipeline.Dat.before; rw [if_pos (by decide)]; rfl
theorem before3 (c : Dev nD) (d) : (dat0 m c).before 3 t0_0 d = vIn m c := by unfold Pipeline.Dat.before; rw [if_pos (by decide)]; rfl

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The region's body on device `c`. -/
theorem body_obligation (c : Dev nD) : BodyObligation (dat0 (F := F) m c) (defs₀ (F := F)) 𝒱₀ () Set.univ := fun t => by
  obtain rfl := fin_N0 t
  rw [bigSep_W0, bigSep_W0]
  simp only [owns_buf]
  rw [show (dat0 m c).Φ t0_0.castSucc = iprop(Enter (wIn m) c ∗ Scratch c) from rfl,
    show (dat0 m c).Φ t0_0.succ = iprop(Leave (wIn m) c ∗ SemsZero c ∗ Scratch c) from rfl]
  unfold Pipeline.Dat.owesAt Pipeline.owesWithin
  rw [show (dat0 m c).owed t0_0.castSucc = O₀ c from rfl, show (dat0 m c).owed t0_0.succ = 0 from rfl]
  iintro ⟨HΦ, ⟨%W, -, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  rw [before0] at hf0; rw [before1] at hf1; rw [before2] at hf2; rw [before3] at hf3
  subst hf0 hf1 hf2 hf3
  ihave HB := (body_begin (wIn m) (xIn m c) (kIn m c) (vIn m c) c W f4) $$ [HΦ HO H0 H1 H2 H3 H4]
  · isplitl [HΦ]; · iexact HΦ
    isplitl [HO]; · iexact HO
    iapply (Entails.of_eq (staged c (xIn m c) (wIn m c) (kIn m c) (vIn m c) f4).symm)
    isplitl [H0]; · iexact H0
    isplitl [H1]; · iexact H1
    isplitl [H2 H3]
    · isplitl [H2]; · iexact H2
      iexact H3
    iexact H4
  icases HB with ⟨%κ, #HI, HB⟩
  iapply (body_spec (wIn m) κ (xIn m c) (kIn m c) (vIn m c) c W f4) $$ HB
  iintro HP
  imod (body_end (wIn m) (xIn m c) (kIn m c) (vIn m c) κ c) $$ [HP] with ⟨HΦ, ⟨%W', HO⟩, HS⟩
  · isplitr; · iexact HI
    iexact HP
  ihave HS' := (Entails.of_eq (staged c (xIn m c) (wIn m c) (kIn m c) (vIn m c) (outAt (wIn m) (maskOf c) (k0_pay51 (xIn m c)) (kIn m c) (vIn m c) c 8))) $$ HS
  icases HS' with ⟨H0, H1, ⟨H2, H3⟩, H4⟩
  imodintro
  isplitl [HΦ]; · iexact HΦ
  isplitl [HO]
  · iexists W'; isplitr; · ipureintro; exact fun _ _ => Or.inl trivial
    iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  iexists _; isplitr; swap; (· iexact H4); ipureintro; rfl

end Cert.Gather

end
-- ==== Proof.Launch.lean ====
/-
The launch: the host operations and the region as the run's two segments, the protocol's cells funded, and the run of
every device to its result.
-/
module

public import proofs.«01_k».proof.Proof.Region
public import Idealize.ShloMosaic.Lib.Pipeline.Kit
public import Idealize.ShloMosaic.Lib.Pipeline.Frame
public import Idealize.SL.BI.BigOpNat

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole blocks: the one point's block of a window is its whole array -/

omit [FloatOps F] in
theorem read0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
omit [FloatOps F] in
theorem read1 (c : Dev nD) (f : Buf (Elt F) ((c : Thread nD τ).loc main_v7)) : (win0_1.blk t0_0).view.read (Elt F) f = f :=
  Memref.read_access_unit_zero (Elt F) main_v7
    (show (fun a => (win0_1.index t0_0) a * main_v7.ty.shape.size a) = fun _ => 0 from funext fun a => by fin_cases a <;> decide)
    (fun a => by fin_cases a <;> decide) f
omit [FloatOps F] in
theorem read2 (c : Dev nD) (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from funext fun a => by fin_cases a <;> decide)
    (fun a => by fin_cases a <;> decide) f
omit [FloatOps F] in
theorem read3 (c : Dev nD) (f : Buf (Elt F) ((c : Thread nD τ).loc main_v4)) : (win0_3.blk t0_0).view.read (Elt F) f = f :=
  Memref.read_access_unit_zero (Elt F) main_v4
    (show (fun a => (win0_3.index t0_0) a * main_v4.ty.shape.size a) = fun _ => 0 from funext fun a => by fin_cases a <;> decide)
    (fun a => by fin_cases a <;> decide) f
omit [FloatOps F] in
theorem read4 (c : Dev nD) (f : Buf (Elt F) ((c : Thread nD τ).loc main_v8)) : (win0_4.blk t0_0).view.read (Elt F) f = f :=
  Memref.read_access_unit_zero (Elt F) main_v8
    (show (fun a => (win0_4.index t0_0) a * main_v8.ty.shape.size a) = fun _ => 0 from funext fun a => by fin_cases a <;> decide)
    (fun a => by fin_cases a <;> decide) f

theorem xIn_eq (c : Dev nD) : xIn m c = m ((c : Thread nD τ).loc main_arg0) := (read0 c _).trans (V_main_arg0 m c)
theorem wIn_eq (c : Dev nD) : wIn m c = V m c main_v7 := read1 c _
theorem kIn_eq (c : Dev nD) : kIn m c = V m c main_v2 := read2 c _
theorem vIn_eq (c : Dev nD) : vIn m c = V m c main_v4 := read3 c _

theorem flushed_out (c : Dev nD) : (dat0 m c).flushed 4 t0_0 = outVal m c := by
  show (cfg0.win 4).cut _ ((dat0 m c).after 4 t0_0) = _
  exact funext fun _ => rfl

/-- The result array after the region: what the body left in its window. -/
theorem arrAt_out (c : Dev nD) : (dat0 m c).arrAt 4 cfg0.N = outVal m c := by
  have hw : ((cfg0.win 4).blk t0_0).view.read (Elt F) ((dat0 m c).arrAt 4 cfg0.N) = (dat0 m c).flushed 4 t0_0 := by
    rw [show cfg0.N = t0_0.val + 1 from rfl, (dat0 m c).arrAt_succ (4 : Fin 5) t0_0, flush0_4, if_pos rfl]
    exact View.read_write_univ _ _
  rw [flushed_out] at hw
  exact (read4 c _).symm.trans hw

theorem arrAt_arg (c : Dev nD) : (pdats (F := F) m 0 c).arrAt 0 (Pipeline.pin (pcfgs (F := F)) adm 0).N = m ((c : Thread nD τ).loc main_arg0) :=
  ((dat0 (F := F) m c).arrAt_in 0 rfl _).trans (V_main_arg0 m c)

theorem arrAt_res (c : Dev nD) : (pdats (F := F) m 0 c).arrAt 4 (Pipeline.pin (pcfgs (F := F)) adm 0).N = outVal m c := arrAt_out m c

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the host operations. -/
def Ride (c : Dev nD) : sProp 𝕄 := iprop(Dealt (wIn m) c ∗ owes (c : Thread nD τ) (O₀ c) ∅)

/-- The host operations: the two transposes and casts, the weights joined and cast. -/
def seg0 : ℍ :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (fun c b => m (c, b)) (Ride m)

/-- What the region leaves: the five arguments and the result, the barrier's counter at zero, nothing owed. -/
def Final (c : Dev nD) : sProp 𝕄 :=
  iprop((((c : Thread nD τ).loc main_v8) ↦{fullShare} outVal m c)
    ∗ ((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4)))
    ∗ semVal (barCell c) 0)

theorem ownSems_eq (c : Dev nD) :
    (Pipeline.ownSems0 (Ix := Unit) (Name := ℕ) (U := UU) (Lvl := ℕ) (Val := Elt F) (τ := τ) (fun k : Fin 60 => SemLoc.dma (dsem (5 + k.val))) c : sProp 𝕄)
      = SemsZero c := by
  unfold Pipeline.ownSems0 SemsZero
  exact run_fin (fun i => (semVal (dCell (5 + i) c) 0 : sProp 𝕄)) 60

theorem arrays_eq (c : Dev nD) (Fa) : ((pdats (F := F) m 0 c).arrays Fa : sProp 𝕄)
    = iprop((((c : Thread nD τ).loc main_arg0) ↦{fullShare} Fa 0) ∗ (((c : Thread nD τ).loc main_v7) ↦{fullShare} Fa 1)
      ∗ (((c : Thread nD τ).loc main_v2) ↦{fullShare} Fa 2) ∗ (((c : Thread nD τ).loc main_v4) ↦{fullShare} Fa 3)
      ∗ (((c : Thread nD τ).loc main_v8) ↦{fullShare} Fa 4)) := by
  rw [Pipeline.arrays_eq (Pipeline.pin (pcfgs (F := F)) adm) (pdats m) 0 c launch0.arr_whole ((pdats m 0 c).share_full fun _ => rfl) Fa, bigSep_W0]

theorem stage_waits (c : Dev nD) (q : DmaSem sig) (hq : q.val < 5) (t : Fin (cfg0.N + 1)) :
    (levAts L lv : sProp 𝕄) ⊢ MayWait (c : Thread nD τ) (.dma q) () ((dat0 (F := F) m c).owed t) := by
  refine mayWait_stage c q hq _ ?_
  show (if t.val = 0 then O₀ c else 0) = O₀ c ∨ (if t.val = 0 then O₀ c else 0) = 0
  split
  · exact .inl rfl
  · exact .inr rfl

theorem stage_lt : ∀ (w : Fin 5) (s : Fin (spec0 w).nbuf), ((spec0 w).sem s).val < 5 := by decide

theorem own_facts : Pipeline.OwnSemFacts spec0 (fun k : Fin 60 => SemLoc.dma (dsem (5 + k.val))) := by decide

/-- The region. -/
def reg0 : ℝ𝕊 0 where
  win := launch0.win.to₀
  block_pos := launch0.block_pos
  stage_whole := launch0.stage_whole
  K := Fin 60
  osem k := .dma (dsem (5 + k.val))
  ho := own_facts
  hbody c := (body_obligation m c).loose
  hwaits c := Pipeline.cellsWaits_intro _ (pdats m) () 0 c fun w s t => stage_waits m c _ (stage_lt w s) t
  pre c := iprop(unscopedBufs c (V m c) ∗ Ride m c)
  post c := iprop(Final m c ∗ ∃ W, owes (c : Thread nD τ) (0 : CellTallies nD τ sig Unit) W)
  X c := Enter (wIn m) c
  Y c := Leave (wIn m) c
  Z c := Pipeline.unscopedRest (Ix := Unit) (Name := ℕ) (U := UU) (Lvl := ℕ) spec0 c (V m c)
  hentry c := by
    rw [ownSems_eq]
    have hsplit := Pipeline.arrays_of_unscopedBufs (pcfgs (F := F)) adm (pdats m) launch0.win launch0.arr_whole c
      ((pdats m 0 c).share_full fun _ => rfl) (V m c) fun _ => rfl
    unfold Ride SemsZero
    iintro ⟨⟨Hub, HD, HO⟩, HS, -⟩
    ihave H := hsplit $$ Hub
    icases H with ⟨Ha, Hr⟩
    imod (enter (wIn m) c) $$ [HD HS] with HE
    · isplitl [HD] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists ∅; isplitr; · ipureintro; exact fun _ _ => Or.inl trivial
      iexact HO
    isplitl [HE] <;> iassumption
  hin c := by
    rw [scopedRest0_eq]
    show _ ⊢ iprop(Enter (wIn m) c ∗ Scratch c)
    iintro ⟨HE, -, HS⟩
    isplitl [HE]; · iexact HE
    unfold Scratch; iexact HS
  hout c := by
    rw [ownSems_eq, scopedRest0_eq]
    show iprop(Leave (wIn m) c ∗ SemsZero c ∗ Scratch c) ⊢ _
    iintro ⟨HL, HZ, HS⟩
    isplitl [HL]; · iexact HL
    isplitl [HZ]; · iexact HZ
    unfold Scratch; iexact HS
  hexit c := by
    rw [unscopedRest0_eq, V_main_arg1, V_main_arg2, V_main_arg3, V_main_arg4]
    rw [arrays_eq, arrAt_arg, arrAt_res]
    unfold Leave Pipeline.Dat.owesAt Pipeline.owesWithin
    iintro ⟨⟨H0, -, -, -, H8⟩, ⟨%W, -, HO⟩, ⟨%κ, HI, Hb⟩, H1, H2, H3, H4, -⟩
    imod (bar_close (wIn m) κ c) $$ [HI Hb] with HB
    · isplitl [HI] <;> iassumption
    imodintro
    isplitr [HO]
    · unfold Final
      isplitl [H8]; · iexact H8
      isplitr [HB]
      · isplitl [H0]; · iexact H0
        isplitl [H1]; · iexact H1
        isplitl [H2]; · iexact H2
        isplitl [H3]; · iexact H3
        iexact H4
      iexact HB
    · iexists W; iexact HO

/-- @main as the list of the two. -/
def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

theorem seg0_reg0 (c : Dev nD) : (seg0 m).post c ⊢ (reg0 m).pre c := by
  dsimp only [seg0, reg0, Pipeline.HostSeg.ofOps]
  rw [← Pipeline.unscopedBufs_held (Ix := Unit) (Name := ℕ) (U := UU) (Lvl := ℕ) c]

/-! ## The launch -/

/-- The launch element. -/
def u₀ : UU :=
  (initOf (Pipeline.cells (Pipeline.pin (pcfgs (F := F)) adm) cellOf_inj) (Pipeline.launchToks (Pipeline.pin (pcfgs (F := F)) adm) cellOf_inj), launchEl)

/-- The protocol's element rides to the launch update on device 0. -/
def G (c : Dev nD) : sProp 𝕄 := if c = 0 then BI.own (ER launchEl) else iprop(emp)

omit [FloatOps F] in
theorem bigSep_G_eq : bigSep Finset.univ (G (F := F)) = (BI.own (ER launchEl) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- The first thread state is the host segment's. -/
abbrev T₀ (c : Dev nD) : sProp 𝕄 := (seg0 m).pre c

/-- Each device's buffers and dues, which the launch update leaves alone. -/
def Kept (c : Dev nD) : sProp 𝕄 := iprop(unscopedBufs c (fun b => m ((c : Thread nD τ).loc b)) ∗ owes (c : Thread nD τ) (O₀ c) ∅)

theorem launch_split (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ iprop(semVal (barCell c) 0 ∗ G c ∗ Pipeline.launchCred O₀ c ∗ Kept m c) := by
  rw [unscopedSems0_eq]; unfold Kept
  iintro ⟨Hub, Hus, HO, Hcr, -, HG⟩
  isplitl [Hus]; · iexact Hus
  isplitl [HG]; · iexact HG
  isplitl [Hcr]; · iexact Hcr
  isplitl [Hub] <;> iassumption

theorem kept_join (c : Dev nD) : iprop(Dealt (wIn m) c ∗ Kept m c) ⊢ T₀ m c := by
  unfold T₀ Kept
  dsimp only [seg0, Pipeline.HostSeg.ofOps]
  rw [← Pipeline.unscopedBufs_held (Ix := Unit) (Name := ℕ) (U := UU) (Lvl := ℕ) c]
  unfold Ride
  iintro ⟨HD, Hub, HO⟩
  isplitl [Hub]; · iexact Hub
  isplitl [HD] <;> iassumption

omit [FloatOps F] in
/-- Four families held by every device, told apart. -/
theorem each_split (A B C D E : Dev nD → sProp 𝕄) (h : ∀ c, E c ⊢ iprop(A c ∗ B c ∗ C c ∗ D c)) :
    bigSep Finset.univ E ⊢ iprop(bigSep Finset.univ A ∗ bigSep Finset.univ B ∗ bigSep Finset.univ C ∗ bigSep Finset.univ D) := by
  rw [← bigSep_sep', ← bigSep_sep', ← bigSep_sep']; exact bigSep_mono fun c _ => h c

omit [FloatOps F] in
theorem both_join (A B E : Dev nD → sProp 𝕄) (h : ∀ c, iprop(A c ∗ B c) ⊢ E c) :
    iprop(bigSep Finset.univ A ∗ bigSep Finset.univ B) ⊢ bigSep Finset.univ E := by
  rw [← bigSep_sep']; exact bigSep_mono fun c _ => h c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, HL⟩
  ihave H' := (each_split _ _ _ _ _ (launch_split m ρ)) $$ H
  icases H' with ⟨HS, HG, HC, HK⟩
  ihave HG' := (Entails.of_eq bigSep_G_eq) $$ HG
  imod (deal (wIn m)) $$ [HS HG' HC HL] with HD
  · isplitl [HS]; · iexact HS
    isplitl [HG']; · iexact HG'
    isplitl [HC] <;> iassumption
  imodintro
  iapply (both_join _ _ _ (kept_join m))
  isplitl [HD] <;> iassumption

/-- A final state at one device: the result, the arguments and the barrier's counter. -/
def Ends (c : Dev nD) (s : MemSt nD τ sig (Elt F)) : Prop :=
  s.mem ((c : Thread nD τ).loc main_v8) = outVal m c
  ∧ (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.sem (barCell c) = 0

set_option backward.isDefEq.respectTransparency.types false in
/-- THE RUN, at any float values: it ends, every device holding its result and its arguments as launched, every counter zero. -/
theorem run_main : θ_run defs (onTc (τ := τ) (main (F := F))) (s₀ m ρ)
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := T₀ m) (Tₙ := Final m)
    (hch := ⟨fun c => .rfl, seg0_reg0 m, fun c => .rfl⟩)
    (hinit := init m ρ)
    (QY := Ends m)
    (hfin := fun c s' => by
      unfold Final
      iintro ⟨⟨H8, ⟨H0, H1, H2, H3, H4⟩, HB⟩, HSI⟩
      icombine HSI H8 gives %h8
      icombine HSI H0 gives %h0
      icombine HSI H1 gives %h1
      icombine HSI H2 gives %h2
      icombine HSI H3 gives %h3
      icombine HSI H4 gives %h4
      icombine HSI HB gives %hb
      imodintro
      isplitr
      · ipureintro
        exact ⟨Buf.eq_of_forall_mem_univ h8, ⟨Buf.eq_of_forall_mem_univ h0, Buf.eq_of_forall_mem_univ h1, Buf.eq_of_forall_mem_univ h2,
          Buf.eq_of_forall_mem_univ h3, Buf.eq_of_forall_mem_univ h4⟩, hb⟩
      iexact HSI)
    (hQ := fun s h hs => ⟨fun c => h c, sem_eq_zero hs fun c sm hsm => by
      have hl : ∀ sm : SemLoc sig, sm.isScoped .tc = false → sm = .reg barS := by decide
      obtain rfl := hl sm hsm
      exact (h c).2.2⟩)

end Cert.Gather

end
-- ==== Proof.Attend.lean ====
/-
One head of the kernel's attention, and one row's update, read at an index on the extended reals.
-/
module

public import proofs.«01_k».proof.Proof.Chunk
public import Idealize.ShloMosaic.Lib.Pointwise

@[expose] public section

set_option maxRecDepth 16384

noncomputable section

namespace Cert.Attend

open Cert.Gather hiding ix2
open Cert.KernelIdeal Cert.KernelIdeal.Gen
open Idealize.ShloMosaic

section Tower

variable {F : FTy → Type} [FloatOps F]

/-- The scaled and masked scores of one head's queries `q` against its keys `k`. -/
def scores (mk : IVec S128x128 1) (q k : FVec F S128x64 .bf16) : FVec F S128x128 .f32 :=
  select mk (mulf (matmul dot_S128x64_S128x64_S128x128_1_1_0_0_n_n none q k (constant S128x128 .f32 0x00000000#32))
    (broadcast S128x128 (Scalar.ofBits .f32 0x3E000000#32))) (broadcast S128x128 (Scalar.ofBits .f32 0xCE6E6B28#32))

/-- The exponentials of scores, each less its row's maximum. -/
def lifted (s : FVec F S128x128 .f32) : FVec F S128x128 .f32 :=
  exp (subf s (broadcastTo S128x128 (shapeCast S128x1
    (multiReduction .maximumf [1] S128 s 0xFF800000#32 reduces_S128x128_S128 (.inl rfl) rfl) shapeCasts_S128_S128x1) broadcasts_S128x1_S128x128))

/-- Each row of `e` divided by its sum. -/
def shares (e : FVec F S128x128 .f32) : FVec F S128x128 .f32 :=
  divf e (broadcastTo S128x128 (shapeCast S128x1
    (multiReduction .add [1] S128 e 0x00000000#32 reduces_S128x128_S128 (.inl rfl) rfl) shapeCasts_S128_S128x1) broadcasts_S128x1_S128x128)

/-- One head: the values `v` mixed by the softmax of the scores. -/
def attend (mk : IVec S128x128 1) (q k v : FVec F S128x64 .bf16) : FVec F S128x64 .f32 :=
  matmul dot_S128x128_S128x64_S128x64_1_0_0_1_n_n none (truncf .bf16 (shares (lifted (scores mk q k))) bitsLt_bf16_f32) v
    (constant S128x64 .f32 0x00000000#32)

/-- One row's update: the four heads side by side times the output weights, added to the row as it was. -/
def mixRow (wo : FVec F S512x256 .bf16) (h0 h1 h2 h3 : FVec F S128x64 .f32) (r : FVec F S1x128x512 .f32) : FVec F S1x128x512 .f32 :=
  shapeCast S1x128x512 (addf (shapeCast S128x512 r shapeCasts_S1x128x512_S128x512)
    (matmul dot_S128x256_S512x256_S128x512_1_1_0_0_n_n none
      (truncf .bf16 (concatenate S128x256 1 [⟨S128x64, h0⟩, ⟨S128x64, h1⟩, ⟨S128x64, h2⟩, ⟨S128x64, h3⟩]
        concatenates_S128x64_S128x64_S128x64_S128x64_S128x256_d1) bitsLt_bf16_f32) wo
      (constant S128x512 .f32 0x00000000#32))) shapeCasts_S128x512_S1x128x512

/-- The queries of row 0 and of row 1 for one device's weights. -/
def query0 (x : FVec F S2x128x512 .bf16) (W : FVec F S1x512x512 .bf16) : FVec F S128x256 .bf16 := k0_pay9 x W
def query1 (x : FVec F S2x128x512 .bf16) (W : FVec F S1x512x512 .bf16) : FVec F S128x256 .bf16 := k0_pay17 x (k0_pay5 W)

/-- Head 0, 1, 2 or 3 of the queries. -/
def part0 (q : FVec F S128x256 .bf16) : FVec F S128x64 .bf16 := extractStridedSlice S128x64 ![0, 0] q slices_S128x256_o0_0_S128x64
def part1 (q : FVec F S128x256 .bf16) : FVec F S128x64 .bf16 := extractStridedSlice S128x64 ![0, 64] q slices_S128x256_o0_64_S128x64
def part2 (q : FVec F S128x256 .bf16) : FVec F S128x64 .bf16 := extractStridedSlice S128x64 ![0, 128] q slices_S128x256_o0_128_S128x64
def part3 (q : FVec F S128x256 .bf16) : FVec F S128x64 .bf16 := extractStridedSlice S128x64 ![0, 192] q slices_S128x256_o0_192_S128x64

/-- A head and row of the keys or values as a matrix. -/
def flat (u : FVec F S1x1x128x64 .bf16) : FVec F S128x64 .bf16 := shapeCast S128x64 u shapeCasts_S1x1x128x64_S128x64

theorem upd0_eq (mk : IVec S128x128 1) (x : FVec F S2x128x512 .bf16) (W : FVec F S1x512x512 .bf16) (k v : FVec F S4x2x128x64 .bf16)
    (r : FVec F S1x128x512 .f32) : upd0 mk x W k v r = mixRow (k0_pay6 W)
      (attend mk (part0 (query0 x W)) (flat (extractStridedSlice S1x1x128x64 ![0, 0, 0, 0] (k0_pay7 k) slices_S4x2x128x64_o0_0_0_0_S1x1x128x64))
        (flat (extractStridedSlice S1x1x128x64 ![0, 0, 0, 0] (k0_pay8 v) slices_S4x2x128x64_o0_0_0_0_S1x1x128x64)))
      (attend mk (part1 (query0 x W)) (flat (extractStridedSlice S1x1x128x64 ![1, 0, 0, 0] (k0_pay7 k) slices_S4x2x128x64_o1_0_0_0_S1x1x128x64))
        (flat (extractStridedSlice S1x1x128x64 ![1, 0, 0, 0] (k0_pay8 v) slices_S4x2x128x64_o1_0_0_0_S1x1x128x64)))
      (attend mk (part2 (query0 x W)) (flat (extractStridedSlice S1x1x128x64 ![2, 0, 0, 0] (k0_pay7 k) slices_S4x2x128x64_o2_0_0_0_S1x1x128x64))
        (flat (extractStridedSlice S1x1x128x64 ![2, 0, 0, 0] (k0_pay8 v) slices_S4x2x128x64_o2_0_0_0_S1x1x128x64)))
      (attend mk (part3 (query0 x W)) (flat (extractStridedSlice S1x1x128x64 ![3, 0, 0, 0] (k0_pay7 k) slices_S4x2x128x64_o3_0_0_0_S1x1x128x64))
        (flat (extractStridedSlice S1x1x128x64 ![3, 0, 0, 0] (k0_pay8 v) slices_S4x2x128x64_o3_0_0_0_S1x1x128x64))) r := rfl

theorem upd1_eq (mk : IVec S128x128 1) (x : FVec F S2x128x512 .bf16) (W : FVec F S1x512x512 .bf16) (k v : FVec F S4x2x128x64 .bf16)
    (r : FVec F S1x128x512 .f32) : upd1 mk x W k v r = mixRow (k0_pay6 W)
      (attend mk (part0 (query1 x W)) (flat (extractStridedSlice S1x1x128x64 ![0, 1, 0, 0] (k0_pay7 k) slices_S4x2x128x64_o0_1_0_0_S1x1x128x64))
        (flat (extractStridedSlice S1x1x128x64 ![0, 1, 0, 0] (k0_pay8 v) slices_S4x2x128x64_o0_1_0_0_S1x1x128x64)))
      (attend mk (part1 (query1 x W)) (flat (extractStridedSlice S1x1x128x64 ![1, 1, 0, 0] (k0_pay7 k) slices_S4x2x128x64_o1_1_0_0_S1x1x128x64))
        (flat (extractStridedSlice S1x1x128x64 ![1, 1, 0, 0] (k0_pay8 v) slices_S4x2x128x64_o1_1_0_0_S1x1x128x64)))
      (attend mk (part2 (query1 x W)) (flat (extractStridedSlice S1x1x128x64 ![2, 1, 0, 0] (k0_pay7 k) slices_S4x2x128x64_o2_1_0_0_S1x1x128x64))
        (flat (extractStridedSlice S1x1x128x64 ![2, 1, 0, 0] (k0_pay8 v) slices_S4x2x128x64_o2_1_0_0_S1x1x128x64)))
      (attend mk (part3 (query1 x W)) (flat (extractStridedSlice S1x1x128x64 ![3, 1, 0, 0] (k0_pay7 k) slices_S4x2x128x64_o3_1_0_0_S1x1x128x64))
        (flat (extractStridedSlice S1x1x128x64 ![3, 1, 0, 0] (k0_pay8 v) slices_S4x2x128x64_o3_1_0_0_S1x1x128x64))) r := rfl

end Tower

/-! ## The same at an index, on the extended reals -/

/-- The greatest of a row of scores. -/
def peak (s : Fin 128 → EReal) : EReal := Finset.univ.fold max (Ideal.ofBits .f32 0xFF800000#32) s

/-- The softmax of a row of scores. -/
def weigh (s : Fin 128 → EReal) (j : Fin 128) : EReal :=
  Ideal.div (Ideal.exp (s j - peak s)) (∑ l : Fin 128, Ideal.exp (s l - peak s))

/-- The scaled and masked scores of one query `q` against the keys `k`. -/
def scoreOf (mk : Fin 128 → BitVec 1) (q : Fin 64 → EReal) (k : Fin 128 → Fin 64 → EReal) (j : Fin 128) : EReal :=
  Scalar.select (mk j) ((∑ d : Fin 64, q d * k j d) * Ideal.ofBits .f32 0x3E000000#32) (Ideal.ofBits .f32 0xCE6E6B28#32)

/-- One query's mix of the values `v`. -/
def headOf (mk : Fin 128 → BitVec 1) (q : Fin 64 → EReal) (k v : Fin 128 → Fin 64 → EReal) (d : Fin 64) : EReal :=
  ∑ j : Fin 128, weigh (scoreOf mk q k) j * v j d

theorem scores_apply (mk : IVec S128x128 1) (q k : FVec Ideal S128x64 .bf16) (i j : Fin 128) :
    scores mk q k (ix2 i j) = scoreOf (fun j => mk (ix2 i j)) (fun d => q (ix2 i d)) (fun j d => k (ix2 j d)) j := by
  pointwise [scores]
  rfl

theorem lifted_apply (s : FVec Ideal S128x128 .f32) (i j : Fin 128) :
    lifted s (ix2 i j) = Ideal.exp (s (ix2 i j) - peak fun j => s (ix2 i j)) := by
  pointwise [lifted]
  rfl

theorem shares_apply (s : FVec Ideal S128x128 .f32) (i j : Fin 128) :
    shares s (ix2 i j) = Ideal.div (s (ix2 i j)) (∑ l : Fin 128, s (ix2 i l)) := by
  pointwise [shares]

theorem attend_apply (mk : IVec S128x128 1) (q k v : FVec Ideal S128x64 .bf16) (i : Fin 128) (d : Fin 64) :
    attend mk q k v (ix2 i d)
      = headOf (fun j => mk (ix2 i j)) (fun d => q (ix2 i d)) (fun j d => k (ix2 j d)) (fun j d => v (ix2 j d)) d := by
  pointwise [attend]
  simp only [shares_apply, lifted_apply, scores_apply]
  rfl

/-- Four rows of sixty-four numbers side by side. -/
def beside (h : Fin 4 → Fin 64 → EReal) (p : Fin 256) : EReal :=
  h ⟨p.val / 64, by omega⟩ ⟨p.val % 64, Nat.mod_lt _ (by decide)⟩

theorem beside_eq (h : Fin 4 → Fin 64 → EReal) (p : Fin 256) : beside h p =
    (if h' : p.val < 64 then h 0 ⟨p.val, by omega⟩
      else if h' : p.val - 64 < 64 then h 1 ⟨p.val - 64, by omega⟩
      else if h' : p.val - 64 - 64 < 64 then h 2 ⟨p.val - 64 - 64, by omega⟩
      else h 3 ⟨p.val - 64 - 64 - 64, by omega⟩) := by
  have hp := p.isLt
  unfold beside
  have key : ∀ (a a' : Fin 4) (b b' : Fin 64), a.val = a'.val → b.val = b'.val → h a b = h a' b' := by
    rintro a a' b b' ha hb
    rw [Fin.ext ha, Fin.ext hb]
  split_ifs with h1 h2 h3 <;> refine key _ _ _ _ ?_ ?_ <;> dsimp <;> omega

theorem mixRow_apply (wo : FVec Ideal S512x256 .bf16) (h0 h1 h2 h3 : FVec Ideal S128x64 .f32) (r : FVec Ideal S1x128x512 .f32)
    (i : Fin 128) (n : Fin 512) : mixRow wo h0 h1 h2 h3 r (ix3 0 i n)
      = r (ix3 0 i n) + ∑ p : Fin 256, beside (fun hh d => (![h0, h1, h2, h3] hh) (ix2 i d)) p * wo (ix2 n p) := by
  pointwise [mixRow]
  simp only [beside_eq]
  rfl

theorem query0_apply (x : FVec Ideal S2x128x512 .bf16) (W : FVec Ideal S1x512x512 .bf16) (i : Fin 128) (p : Fin 256) :
    query0 x W (ix2 i p) = ∑ l : Fin 512, x (ix3 0 i l) * W (ix3 0 l ⟨p.val, by omega⟩) := by
  unfold query0
  unfold_payloads
  pointwise

theorem query1_apply (x : FVec Ideal S2x128x512 .bf16) (W : FVec Ideal S1x512x512 .bf16) (i : Fin 128) (p : Fin 256) :
    query1 x W (ix2 i p) = ∑ l : Fin 512, x (ix3 1 i l) * W (ix3 0 l ⟨p.val, by omega⟩) := by
  unfold query1
  unfold_payloads
  pointwise

theorem wo_apply (W : Vec Ideal S1x512x512 .bf16) (n : Fin 512) (p : Fin 256) :
    k0_pay6 (F := Ideal) W (ix2 n p) = W (ix3 0 n ⟨256 + p.val, by omega⟩) := by
  unfold_payloads
  pointwise

theorem headOf_congr (mk : Fin 128 → BitVec 1) {q q' : Fin 64 → EReal} {k k' v v' : Fin 128 → Fin 64 → EReal} (hq : ∀ d, q d = q' d)
    (hk : ∀ j d, k j d = k' j d) (hv : ∀ j d, v j d = v' j d) (d : Fin 64) : headOf mk q k v d = headOf mk q' k' v' d := by
  rw [funext hq, funext fun j => funext (hk j), funext fun j => funext (hv j)]

/-- What one device's weights and heads add to the result at batch `b`, query `i`, column `n`. -/
def gain (mk : IVec S128x128 1) (x : FVec Ideal S2x128x512 .bf16) (W : FVec Ideal S1x512x512 .bf16) (k v : FVec Ideal S4x2x128x64 .bf16)
    (b : Fin 2) (i : Fin 128) (n : Fin 512) : EReal :=
  ∑ p : Fin 256, beside (fun hh => headOf (fun j => mk (ix2 i j))
      (fun d => ∑ l : Fin 512, x (ix3 b i l) * W (ix3 0 l ⟨64 * hh.val + d.val, by omega⟩))
      (fun j d => k (ix4 hh b j d)) (fun j d => v (ix4 hh b j d))) p
    * W (ix3 0 n ⟨256 + p.val, by omega⟩)

theorem part_apply (q : FVec Ideal S128x256 .bf16) (i : Fin 128) (hh : Fin 4) (d : Fin 64) :
    (![part0 q, part1 q, part2 q, part3 q] hh) (ix2 i d) = q (ix2 i ⟨64 * hh.val + d.val, by omega⟩) := by
  fin_cases hh
  · pointwise [part0]
  · pointwise [part1]
  · pointwise [part2]
  · pointwise [part3]

theorem upd0_apply (mk : IVec S128x128 1) (x : FVec Ideal S2x128x512 .bf16) (W : FVec Ideal S1x512x512 .bf16) (k v : FVec Ideal S4x2x128x64 .bf16)
    (r : FVec Ideal S1x128x512 .f32) (i : Fin 128) (n : Fin 512) :
    upd0 mk x W k v r (ix3 0 i n) = r (ix3 0 i n) + gain mk x W k v 0 i n := by
  rw [upd0_eq, mixRow_apply]
  refine congrArg (r (ix3 0 i n) + ·) (Finset.sum_congr rfl fun p _ => ?_)
  rw [wo_apply]
  refine congrArg (· * _) (congrArg (beside · p) (funext fun hh => funext fun d => ?_))
  have q (hh : Fin 4) (d : Fin 64) := (part_apply (query0 x W) i hh d).trans (query0_apply x W i _)
  fin_cases hh
  all_goals refine (attend_apply _ _ _ _ i d).trans (headOf_congr _ (fun d => ?_) (fun j d => ?_) (fun j d => ?_) d)
  all_goals try
    unfold flat
    unfold_payloads
    pointwise
    done
  exacts [q 0 _, q 1 _, q 2 _, q 3 _]

theorem upd1_apply (mk : IVec S128x128 1) (x : FVec Ideal S2x128x512 .bf16) (W : FVec Ideal S1x512x512 .bf16) (k v : FVec Ideal S4x2x128x64 .bf16)
    (r : FVec Ideal S1x128x512 .f32) (i : Fin 128) (n : Fin 512) :
    upd1 mk x W k v r (ix3 0 i n) = r (ix3 0 i n) + gain mk x W k v 1 i n := by
  rw [upd1_eq, mixRow_apply]
  refine congrArg (r (ix3 0 i n) + ·) (Finset.sum_congr rfl fun p _ => ?_)
  rw [wo_apply]
  refine congrArg (· * _) (congrArg (beside · p) (funext fun hh => funext fun d => ?_))
  have q (hh : Fin 4) (d : Fin 64) := (part_apply (query1 x W) i hh d).trans (query1_apply x W i _)
  fin_cases hh
  all_goals refine (attend_apply _ _ _ _ i d).trans (headOf_congr _ (fun d => ?_) (fun j d => ?_) (fun j d => ?_) d)
  all_goals try
    unfold flat
    unfold_payloads
    pointwise
    done
  exacts [q 0 _, q 1 _, q 2 _, q 3 _]

end Cert.Attend

end
-- ==== Proof.Inputs.lean ====
/-
The kernel's arrays after its host operations, and the rows of the result's block, read at an index.
-/
module

public import proofs.«01_k».proof.Proof.Launch
public import proofs.«01_k».proof.Proof.Attend

@[expose] public section

set_option maxRecDepth 16384

noncomputable section

namespace Cert.Attend

open Cert.Gather hiding ix2
open Cert.KernelIdeal Cert.KernelIdeal.Gen
open Idealize.ShloMosaic Idealize.ShloMosaic.TcCoe

/-! ## After the host operations -/

section Host

variable {F : FTy → Type} [FloatOps F] (m : (ℓ : Loc nD τ sig) → Buf (Elt F) ℓ) (c : Dev nD)

theorem V_weights : V m c main_v7 = truncf .bf16 (concatenate S512x512 1 [⟨S512x256, m ((c : Thread nD τ).loc main_arg1)⟩,
    ⟨S512x256, transpose S512x256 [1, 0] (m ((c : Thread nD τ).loc main_arg4)) transposes_S256x512_S512x256_1_0⟩]
    concatenates_S512x256_S512x256_S512x512_d1) bitsLt_bf16_f32 := by
  simp only [V, hostOps0]
  after_results_simp <;> rfl

theorem V_keys : V m c main_v2 = truncf .bf16 (transpose S64x2x128x64 [2, 0, 1, 3] (m ((c : Thread nD τ).loc main_arg2))
    transposes_S2x128x64x64_S64x2x128x64_2_0_1_3) bitsLt_bf16_f32 := by
  simp only [V, hostOps0]
  after_results_simp <;> rfl

theorem V_values : V m c main_v4 = truncf .bf16 (transpose S64x2x128x64 [2, 0, 1, 3] (m ((c : Thread nD τ).loc main_arg3))
    transposes_S2x128x64x64_S64x2x128x64_2_0_1_3) bitsLt_bf16_f32 := by
  simp only [V, hostOps0]
  after_results_simp <;> rfl

end Host

/-! ## The rows of the result's block -/

variable (f : S2x128x512.Idx → Elt Ideal .f32) (r : FVec Ideal S1x128x512 .f32) (i : Fin 128) (n : Fin 512)

theorem row0_emb : (oM.access row0 : View sig .tc _ _ _).emb (ix3 0 i n : S1x128x512.Idx) = (ix3 0 i n : S2x128x512.Idx) := by
  funext a
  match a with
  | ⟨0, _⟩ => rfl
  | ⟨1, _⟩ => exact Fin.ext (show 0 + 1 * i.val = i.val by omega)
  | ⟨2, _⟩ => exact Fin.ext (show 0 + 1 * n.val = n.val by omega)

theorem row1_emb : (oM.access row1 : View sig .tc _ _ _).emb (ix3 0 i n : S1x128x512.Idx) = (ix3 1 i n : S2x128x512.Idx) := by
  funext a
  match a with
  | ⟨0, _⟩ => rfl
  | ⟨1, _⟩ => exact Fin.ext (show 0 + 1 * i.val = i.val by omega)
  | ⟨2, _⟩ => exact Fin.ext (show 0 + 1 * n.val = n.val by omega)

theorem get0_apply : get0 f (ix3 0 i n) = f (ix3 0 i n) := congrArg f (row0_emb i n)
theorem get1_apply : get1 f (ix3 0 i n) = f (ix3 1 i n) := congrArg f (row1_emb i n)

theorem put0_row0 : put0 f r (ix3 0 i n) = r (ix3 0 i n) := by
  have h := View.write_emb_of_mem (Val := Elt Ideal) (v := (oM.access row0 : View sig .tc _ _ _)) f r (Finset.mem_univ (ix3 0 i n : S1x128x512.Idx))
  rw [row0_emb i n] at h
  exact h

theorem put1_row1 : put1 f r (ix3 1 i n) = r (ix3 0 i n) := by
  have h := View.write_emb_of_mem (Val := Elt Ideal) (v := (oM.access row1 : View sig .tc _ _ _)) f r (Finset.mem_univ (ix3 0 i n : S1x128x512.Idx))
  rw [row1_emb i n] at h
  exact h

theorem put0_row1 : put0 f r (ix3 1 i n) = f (ix3 1 i n) := by
  refine View.write_of_not_mem (Val := Elt Ideal) (v := (oM.access row0 : View sig .tc _ _ _)) f r Finset.univ fun hm => ?_
  obtain ⟨x, -, hx⟩ := Finset.mem_map.mp hm
  have h0 : (x 0).val < 1 := (x 0).isLt
  have e : 0 + 1 * (x 0).val = 1 := congrArg (fun y : S2x128x512.Idx => (y 0).val) hx
  omega

theorem put1_row0 : put1 f r (ix3 0 i n) = f (ix3 0 i n) := by
  refine View.write_of_not_mem (Val := Elt Ideal) (v := (oM.access row1 : View sig .tc _ _ _)) f r Finset.univ fun hm => ?_
  obtain ⟨x, -, hx⟩ := Finset.mem_map.mp hm
  have e : 1 + 1 * (x 0).val = 0 := congrArg (fun y : S2x128x512.Idx => (y 0).val) hx
  omega

/-! ## The accumulation -/

variable (w : Dev nD → S512x512.Idx → Elt Ideal .bf16) (mk : IVec S128x128 1) (x : FVec Ideal S2x128x512 .bf16)
  (kc vc : S64x2x128x64.Idx → Elt Ideal .bf16)

/-- What device `e`'s weights and heads add. -/
def part (e : Dev nD) (b : Fin 2) (i : Fin 128) (n : Fin 512) : EReal := gain mk x (slotVal w e) (heads e kc) (heads e vc) b i n

theorem accum_row0 (e : Dev nD) : accum w mk x kc vc e f (ix3 0 i n) = f (ix3 0 i n) + part w mk x kc vc e 0 i n := by
  unfold accum part
  rw [put1_row0, put0_row0, upd0_apply, get0_apply]

theorem accum_row1 (e : Dev nD) : accum w mk x kc vc e f (ix3 1 i n) = f (ix3 1 i n) + part w mk x kc vc e 1 i n := by
  unfold accum part
  rw [put1_row1, upd1_apply, get1_apply, put0_row1]

theorem accum_apply (e : Dev nD) (b : Fin 2) : accum w mk x kc vc e f (ix3 b i n) = f (ix3 b i n) + part w mk x kc vc e b i n := by
  fin_cases b
  · exact accum_row0 f i n w mk x kc vc e
  · exact accum_row1 f i n w mk x kc vc e

/-- The devices whose parts are in before trip `k` on device `c`, in the order they were added. -/
def order (c : Dev nD) : ℕ → List (Dev nD)
  | 0 => [c]
  | k + 1 => if k < 7 then order c k ++ [owner c (k + 1), owner c (10 + k)] else order c k ++ [owner c (k + 1)]

theorem order_all : ∀ c : Dev nD, (order c 8).Nodup ∧ (order c 8).toFinset = Finset.univ := by decide +kernel

theorem zeros_apply (b : Fin 2) : k0_pay52 (F := Ideal) (Scalar.ofBits .f32 0x00000000#32) (ix3 b i n) = 0 := by
  unfold_payloads
  pointwise

theorem outAt_order (c : Dev nD) (b : Fin 2) : ∀ k, outAt w mk x kc vc c k (ix3 b i n) = ((order c k).map fun e => part w mk x kc vc e b i n).sum
  | 0 => by
    rw [outAt, accum_apply, zeros_apply, zero_add]
    exact (List.sum_singleton).symm
  | k + 1 => by
    rw [outAt, order]
    split_ifs
    · rw [accum_apply, accum_apply, outAt_order c b k, List.map_append, List.sum_append, add_assoc]
      simp
    · rw [accum_apply, outAt_order c b k, List.map_append, List.sum_append]
      simp

/-- The result's block at last: the sum of every device's part. -/
theorem outAt_apply (c : Dev nD) (b : Fin 2) : outAt w mk x kc vc c 8 (ix3 b i n) = ∑ e : Dev nD, part w mk x kc vc e b i n := by
  rw [outAt_order, ← (order_all c).2, List.sum_toFinset _ (order_all c).1]

end Cert.Attend

end
-- ==== Proof.Plain.lean ====
/-
The reference's result, its term cut into named parts, and each part read at an index on the extended reals.
-/
module

public import proofs.«01_k».proof.Proof.Gen.ReferenceIdeal.Run
public import Idealize.ShloMosaic.Lib.Pointwise

@[expose] public section

set_option maxRecDepth 16384

noncomputable section

namespace Cert.Plain

open Cert.ReferenceIdeal Cert.ReferenceIdeal.Gen
open Idealize.ShloMosaic Idealize.ShloMosaic.TcCoe

/-! ## The mask -/

/-- The block of each query, and of each key. -/
def qBlock : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
def kBlock : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The sum of a query's and a key's blocks. -/
def blockSum : IVec S2048x128 32 := addi (broadcastInDim S2048x128 ![0, 1] bcast_S2048x1_S2048x128_0_1 (broadcastInDim S2048x1 ![0] bcast_S2048_S2048x1_0 qBlock)) (broadcastInDim S2048x128 ![0, 1] bcast_S1x128_S2048x128_0_1 (broadcastInDim S1x128 ![1] bcast_S128_S1x128_1 kBlock))

/-- The divisor three as the reference guards it. -/
def three : IVec S_ 32 := select (cmpi .eq (id (constantI S_ 32 3#32)) (constantI S_ 32 0#32)) (constantI S_ 32 1#32) (id (constantI S_ 32 3#32))

def blockRem : IVec S2048x128 32 := Host.remsi blockSum (broadcastInDim S2048x128 ![] bcast_S_S2048x128 three)

/-- The sum of the blocks modulo three. -/
def blockMod : IVec S2048x128 32 :=
  select (andi (cmpi .ne (cmpi .slt blockRem (broadcastInDim S2048x128 ![] bcast_S_S2048x128 (constantI S_ 32 0#32))) (broadcastInDim S2048x128 ![] bcast_S_S2048x128 (cmpi .slt three (constantI S_ 32 0#32)))) (cmpi .ne blockRem (broadcastInDim S2048x128 ![] bcast_S_S2048x128 (constantI S_ 32 0#32)))) (addi blockRem (broadcastInDim S2048x128 ![] bcast_S_S2048x128 three)) blockRem

/-- Which keys a query reads. -/
def sees : IVec S2048x128 1 :=
  ori (ori (cmpi .eq (broadcastInDim S2048x128 ![0, 1] bcast_S2048x1_S2048x128_0_1 (broadcastInDim S2048x1 ![0] bcast_S2048_S2048x1_0 qBlock)) (broadcastInDim S2048x128 ![0, 1] bcast_S1x128_S2048x128_0_1 (broadcastInDim S1x128 ![1] bcast_S128_S1x128_1 kBlock))) (broadcastInDim S2048x128 ![0, 1] bcast_S1x128_S2048x128_0_1 (cmpi .eq (broadcastInDim S1x128 ![1] bcast_S128_S1x128_1 kBlock) (broadcastInDim S1x128 ![] bcast_S_S1x128 (constantI S_ 32 0#32))))) (cmpi .eq blockMod (broadcastInDim S2048x128 ![] bcast_S_S2048x128 (constantI S_ 32 0#32)))

/-- Which queries read some key. -/
def seesAny : IVec S2048 1 := Host.reduce IntOp.ori sees (constantI S_ 1 0#1) reducesTo_S2048x128_S2048_d1 h_S_

section Tower

variable {F : FTy → Type} [FloatOps F]

/-- All queries, head by head. -/
def allQueries (X : FVec F S2x2048x512 .f32) (Wq : FVec F S512x4096 .f32) : FVec F S2x2048x64x64 .f32 :=
  shapeCast _ (Host.dotGeneral dot_S2x2048x512_S512x4096_S2x2048x4096_2_0_01_1_n_n none X Wq) shapeCasts_S2x2048x4096_S2x2048x64x64

/-- The scaled and masked scores. -/
def allScores (Q : FVec F S2x2048x64x64 .f32) (K : FVec F S2x128x64x64 .f32) : FVec F S2x64x2048x128 .f32 :=
  select (broadcastInDim S2x64x2048x128 ![0, 1, 2, 3] bcast_S1x1x2048x128_S2x64x2048x128_0_1_2_3 (broadcastInDim S1x1x2048x128 ![2, 3] bcast_S2048x128_S1x1x2048x128_2_3 sees)) (mulf (Host.dotGeneral dot_S2x2048x64x64_S2x128x64x64_S2x64x2048x128_3_3_1_1_02_02 none Q K) (broadcastInDim S2x64x2048x128 ![] bcast_S_S2x64x2048x128 (constant S_ .f32 0x3E000000#32))) (broadcastInDim S2x64x2048x128 ![] bcast_S_S2x64x2048x128 (id (constant S_ .f32 0xCE6E6B28#32)))

/-- The exponentials of the scores less each row's maximum. -/
def allLifted (s : FVec F S2x64x2048x128 .f32) : FVec F S2x64x2048x128 .f32 :=
  Host.exp (subf s (broadcastInDim S2x64x2048x128 ![0, 1, 2, 3] bcast_S2x64x2048x1_S2x64x2048x128_0_1_2_3 (broadcastInDim S2x64x2048x1 ![0, 1, 2] bcast_S2x64x2048_S2x64x2048x1_0_1_2 (Host.reduce FloatOps.maximumf s (constant S_ .f32 0xFF800000#32) reducesTo_S2x64x2048x128_S2x64x2048_d3 h_S_))))

/-- The weights: each row divided by its sum, a row that reads no key set to zero. -/
def allShares (e : FVec F S2x64x2048x128 .f32) : FVec F S2x64x2048x128 .f32 :=
  select (broadcastInDim S2x64x2048x128 ![0, 1, 2, 3] bcast_S1x1x2048x1_S2x64x2048x128_0_1_2_3 (broadcastInDim S1x1x2048x1 ![2] bcast_S2048_S1x1x2048x1_2 seesAny)) (Host.divf e (broadcastInDim S2x64x2048x128 ![0, 1, 2, 3] bcast_S2x64x2048x1_S2x64x2048x128_0_1_2_3 (select (broadcastInDim S2x64x2048x1 ![0, 1, 2, 3] bcast_S1x1x2048x1_S2x64x2048x1_0_1_2_3 (broadcastInDim S1x1x2048x1 ![2] bcast_S2048_S1x1x2048x1_2 seesAny)) (broadcastInDim S2x64x2048x1 ![0, 1, 2] bcast_S2x64x2048_S2x64x2048x1_0_1_2 (Host.reduceAdd e (constant S_ .f32 0x00000000#32) reducesTo_S2x64x2048x128_S2x64x2048_d3 h_S_)) (broadcastInDim S2x64x2048x1 ![] bcast_S_S2x64x2048x1 (id (constant S_ .f32 0x3F800000#32)))))) (broadcastInDim S2x64x2048x128 ![] bcast_S_S2x64x2048x128 (id (constant S_ .f32 0x00000000#32)))

/-- The values mixed by the weights, the heads side by side. -/
def allMixed (V : FVec F S2x128x64x64 .f32) (w : FVec F S2x64x2048x128 .f32) : FVec F S2x2048x4096 .f32 :=
  shapeCast _ (transpose S2x2048x64x64 [0, 3, 1, 2] (Host.dotGeneral dot_S2x128x64x64_S2x64x2048x128_S2x64x64x2048_1_3_3_2_02_01 none V w) transposes_S2x64x64x2048_S2x2048x64x64_0_3_1_2) shapeCasts_S2x2048x64x64_S2x2048x4096

theorem result_eq (m : (ℓ : Loc nD τ sig) → Buf (Elt F) ℓ) (c : Dev nD) : Value.res_main_v44 m c =
    Host.dotGeneral dot_S2x2048x4096_S4096x512_S2x2048x512_2_0_01_1_n_n none
      (allMixed (m ((c.tc : Thread nD τ).loc main_arg3)) (allShares (allLifted (allScores
        (allQueries (m ((c.tc : Thread nD τ).loc main_arg0)) (m ((c.tc : Thread nD τ).loc main_arg1))) (m ((c.tc : Thread nD τ).loc main_arg2))))))
      (m ((c.tc : Thread nD τ).loc main_arg4)) := rfl

end Tower

/-! ## The parts at an index -/

theorem allQueries_apply (X : FVec Ideal S2x2048x512 .f32) (Wq : FVec Ideal S512x4096 .f32) (b : Fin 2) (i : Fin 2048) (h d : Fin 64) :
    allQueries X Wq (ix4 b i h d) = ∑ l : Fin 512, X (ix3 b i l) * Wq (ix2 l ⟨h.val * 64 + d.val, by omega⟩) := by
  pointwise [allQueries]

theorem allScores_apply (Q : FVec Ideal S2x2048x64x64 .f32) (K : FVec Ideal S2x128x64x64 .f32) (b : Fin 2) (i : Fin 2048) (h : Fin 64) (j : Fin 128) :
    allScores Q K (ix4 b h i j) = Scalar.select (sees (ix2 i j))
      ((∑ d : Fin 64, Q (ix4 b i h d) * K (ix4 b j h d)) * Ideal.ofBits .f32 0x3E000000#32) (Ideal.ofBits .f32 0xCE6E6B28#32) := by
  pointwise [allScores]
  rfl

theorem allLifted_apply (s : FVec Ideal S2x64x2048x128 .f32) (b : Fin 2) (i : Fin 2048) (h : Fin 64) (j : Fin 128) :
    allLifted s (ix4 b h i j) = Ideal.exp (s (ix4 b h i j)
      - Finset.univ.fold max (Ideal.ofBits .f32 0xFF800000#32) fun l : Fin 128 => s (ix4 b h i l)) := by
  pointwise [allLifted]

theorem allShares_apply (e : FVec Ideal S2x64x2048x128 .f32) (b : Fin 2) (i : Fin 2048) (h : Fin 64) (j : Fin 128)
    (hi : seesAny (ix1 i) = 1#1) : allShares e (ix4 b h i j) = Ideal.div (e (ix4 b h i j)) (∑ l : Fin 128, e (ix4 b h i l)) := by
  pointwise [allShares]
  rw [hi]
  rfl

theorem allMixed_apply (V : FVec Ideal S2x128x64x64 .f32) (w : FVec Ideal S2x64x2048x128 .f32) (b : Fin 2) (i : Fin 2048) (p : Fin 4096) :
    allMixed V w (ix3 b i p) = ∑ j : Fin 128, V (ix4 b j ⟨p.val / 64, by omega⟩ ⟨p.val % 64, Nat.mod_lt _ (by decide)⟩)
      * w (ix4 b ⟨p.val / 64, by omega⟩ i j) := by
  pointwise [allMixed]

theorem result_apply (A : FVec Ideal S2x2048x4096 .f32) (Wo : FVec Ideal S4096x512 .f32) (b : Fin 2) (i : Fin 2048) (n : Fin 512) :
    Host.dotGeneral dot_S2x2048x4096_S4096x512_S2x2048x512_2_0_01_1_n_n none A Wo (ix3 b i n) = ∑ p : Fin 4096, A (ix3 b i p) * Wo (ix2 p n) := by
  pointwise

/-! ## The mask at an index -/

/-- A word's sign. -/
def sgn (n : BitVec 32) : BitVec 32 := if n = 0 then 0 else if n.msb = true then -1 else 1

/-- The reference's division of a word by sixty-four. -/
def div64 (n : BitVec 32) : BitVec 32 :=
  Scalar.select
    (IntOp.andi (IntOp.cmpi .ne (sgn n) (sgn 64#32))
      (IntOp.cmpi .ne (IntOp.remsi .host n 64#32) 0#32))
    (IntOp.subi (IntOp.divsi .host n 64#32) 1#32) (IntOp.divsi .host n 64#32)

/-- The reference's remainder of a word modulo three. -/
def mod3 (n : BitVec 32) : BitVec 32 :=
  Scalar.select (IntOp.andi (IntOp.cmpi .ne (IntOp.cmpi .slt (IntOp.remsi .host n 3#32) 0#32) (IntOp.cmpi .slt (3#32) 0#32))
      (IntOp.cmpi .ne (IntOp.remsi .host n 3#32) 0#32))
    (IntOp.addi (IntOp.remsi .host n 3#32) 3#32) (IntOp.remsi .host n 3#32)

/-- Whether a query in block `q` reads a key in block `k`. -/
def pairSees (q k : BitVec 32) : BitVec 1 :=
  IntOp.ori (IntOp.ori (IntOp.cmpi .eq q k) (IntOp.cmpi .eq k 0#32)) (IntOp.cmpi .eq (mod3 (IntOp.addi q k)) 0#32)

theorem qBlock_apply (i : Fin 2048) : qBlock (ix1 i) = div64 (BitVec.ofNat 32 i.val) := by
  pointwise [qBlock]
  rfl

theorem kBlock_apply (j : Fin 128) : kBlock (ix1 j) = div64 (BitVec.ofNat 32 j.val) := by
  pointwise [kBlock]
  rfl

theorem sees_apply (i : Fin 2048) (j : Fin 128) : sees (ix2 i j) = pairSees (div64 (BitVec.ofNat 32 i.val)) (div64 (BitVec.ofNat 32 j.val)) := by
  rw [← qBlock_apply, ← kBlock_apply]
  pointwise [sees, blockMod, blockRem, three, blockSum]
  rfl

theorem div64_eq : ∀ n : Fin 2048, div64 (BitVec.ofNat 32 n.val) = BitVec.ofNat 32 (n.val / 64) := by
  decide +kernel

theorem pairSees_first : ∀ q : Fin 32, pairSees (BitVec.ofNat 32 q.val) 0#32 = 1#1 := by decide

theorem ori_one : ∀ x : BitVec 1, IntOp.ori 1#1 x = 1#1 := by decide

/-- Every query reads the first key. -/
theorem seesAny_apply (i : Fin 2048) : seesAny (ix1 i) = 1#1 := by
  pointwise [seesAny]
  rw [← Finset.insert_erase (Finset.mem_univ (0 : Fin 128)), Finset.fold_insert (Finset.notMem_erase _ _), sees_apply, div64_eq]
  rw [show div64 (BitVec.ofNat 32 (0 : Fin 128).val) = 0#32 from div64_eq 0, pairSees_first ⟨i.val / 64, by omega⟩]
  exact ori_one _

end Cert.Plain

end
-- ==== Proof.Mask.lean ====
/-
The kernel's mask and the reference's are one function of the blocks a query and a key lie in.
-/
module

public import proofs.«01_k».proof.Proof.Body
public import proofs.«01_k».proof.Proof.Plain

@[expose] public section

set_option maxRecDepth 16384

noncomputable section

namespace Cert.Mask

open Cert.Gather hiding ix2
open Cert.KernelIdeal Cert.KernelIdeal.Gen
open Idealize.ShloMosaic

/-- The kernel's division of a word by sixty-four. -/
def div64 (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- The block of device `c`'s first query. -/
def firstBlock (c : Dev nD) : BitVec 32 := Scalar.muli (Scalar.remsi (Scalar.divsi (Dev.word c) 1#32) 16#32) 2#32

/-- Whether a query in block `q` reads a key in block `k`. -/
def pairSees (q k : BitVec 32) : BitVec 1 :=
  IntOp.ori (IntOp.ori (IntOp.cmpi .eq q k) (IntOp.cmpi .eq k 0#32)) (IntOp.cmpi .eq (IntOp.remsi .vector (IntOp.addi q k) 3#32) 0#32)

theorem mask_apply (c : Dev nD) (i j : Fin 128) : maskOf c (ix2 i j)
    = pairSees (IntOp.addi (firstBlock c) (div64 (BitVec.ofNat 32 i.val))) (div64 (BitVec.ofNat 32 j.val)) := by
  unfold maskOf
  unfold_payloads
  pointwise
  rfl

theorem div64_eq : ∀ n : Fin 128, div64 (BitVec.ofNat 32 n.val) = BitVec.ofNat 32 (n.val / 64) := by
  decide +kernel

theorem pair_eq : ∀ (c : Dev nD) (a b : Fin 2), pairSees (IntOp.addi (firstBlock c) (BitVec.ofNat 32 a.val)) (BitVec.ofNat 32 b.val)
    = Cert.Plain.pairSees (BitVec.ofNat 32 (2 * c.val + a.val)) (BitVec.ofNat 32 b.val) := by
  decide

/-- Device `c`'s query `i` is query `128 c + i` of all, and it reads the same keys in both programs. -/
theorem mask_eq (c : Dev nD) (i j : Fin 128) (h : 128 * c.val + i.val < 2048) : maskOf c (ix2 i j)
    = Cert.Plain.sees (ix2 ⟨128 * c.val + i.val, h⟩ j) := by
  rw [mask_apply, Cert.Plain.sees_apply, div64_eq, div64_eq, Cert.Plain.div64_eq ⟨128 * c.val + i.val, h⟩,
    Cert.Plain.div64_eq ⟨j.val, by omega⟩]
  rw [show (128 * c.val + i.val) / 64 = 2 * c.val + i.val / 64 by omega]
  exact pair_eq c ⟨i.val / 64, by omega⟩ ⟨j.val / 64, by omega⟩

end Cert.Mask

end
-- ==== Proof.Equation.lean ====
/-
The result's block on each device is the reference's: the sum over the devices of their heads' parts is the
reference's sum over all heads.
-/
module

public import proofs.«01_k».proof.Proof.Inputs
public import proofs.«01_k».proof.Proof.Mask
public import Idealize.ShloMosaic.Lib.LayoutAt

@[expose] public section

set_option maxRecDepth 16384

noncomputable section

namespace Cert.Equation

open Cert.Gather hiding ix2
open Cert.Attend
open Cert.KernelIdeal Cert.KernelIdeal.Gen
open Idealize.ShloMosaic Idealize.ShloMosaic.TcCoe

/-! ## One array of weights, and the heads of one device, at an index -/

section Inputs

variable (m : (ℓ : Loc nD τ sig) → Buf (Elt Ideal) ℓ)

theorem pair_eq (l q : Fin 512) : Cert.Gather.ix2 l q = (ix2 l q : S512x512.Idx) := by
  funext a
  match a with
  | ⟨0, _⟩ => rfl
  | ⟨1, _⟩ => rfl

theorem slot_apply (w : Dev nD → S512x512.Idx → Elt Ideal .bf16) (e : Dev nD) (l q : Fin 512) :
    slotVal w e (ix3 0 l q) = w e (ix2 l q) := congrArg (w e) (pair_eq l q)

/-- The left half of a device's weights is its block of the queries' weights, -/
theorem weights_left (e : Dev nD) (l : Fin 512) (p : Fin 256) :
    wIn m e (ix2 l ⟨p.val, by omega⟩) = m ((e : Thread nD τ).loc main_arg1) (ix2 l p : S512x256.Idx) := by
  rw [wIn_eq, V_weights]
  pointwise

/-- and the right half is its block of the output's, turned over. -/
theorem weights_right (e : Dev nD) (n : Fin 512) (p : Fin 256) :
    wIn m e (ix2 n ⟨256 + p.val, by omega⟩) = m ((e : Thread nD τ).loc main_arg4) (ix2 p n : S256x512.Idx) := by
  rw [wIn_eq, V_weights]
  pointwise

theorem heads_apply (f : S64x2x128x64.Idx → Elt Ideal .bf16) (e : Dev nD) (hh : Fin 4) (b : Fin 2) (j : Fin 128) (d : Fin 64) :
    heads e f (ix4 hh b j d) = f (ix4 ⟨4 * e.val + hh.val, by have : e.val < 16 := e.isLt; omega⟩ b j d : S64x2x128x64.Idx) := by
  refine congrArg f (funext fun a => ?_)
  match a with
  | ⟨0, _⟩ => exact Fin.ext (show 4 * e.val + 1 * hh.val = 4 * e.val + hh.val by omega)
  | ⟨1, _⟩ => exact Fin.ext (show 0 + 1 * b.val = b.val by omega)
  | ⟨2, _⟩ => exact Fin.ext (show 0 + 1 * j.val = j.val by omega)
  | ⟨3, _⟩ => exact Fin.ext (show 0 + 1 * d.val = d.val by omega)

theorem keys_apply (c : Dev nD) (h : Fin 64) (b : Fin 2) (j : Fin 128) (d : Fin 64) :
    kIn m c (ix4 h b j d) = m ((c : Thread nD τ).loc main_arg2) (ix4 b j h d : S2x128x64x64.Idx) := by
  rw [kIn_eq, V_keys]
  pointwise

theorem values_apply (c : Dev nD) (h : Fin 64) (b : Fin 2) (j : Fin 128) (d : Fin 64) :
    vIn m c (ix4 h b j d) = m ((c : Thread nD τ).loc main_arg3) (ix4 b j h d : S2x128x64x64.Idx) := by
  rw [vIn_eq, V_values]
  pointwise

theorem rows_apply (c : Dev nD) (b : Fin 2) (i : Fin 128) (l : Fin 512) :
    k0_pay51 (xIn m c) (ix3 b i l) = m ((c : Thread nD τ).loc main_arg0) (ix3 b i l : S2x128x512.Idx) := by
  rw [xIn_eq]
  unfold_payloads
  pointwise

end Inputs

/-! ## The whole attention, as sums -/

section Whole

variable (X : FVec Ideal Cert.ReferenceIdeal.S2x2048x512 .f32) (Wq : FVec Ideal Cert.ReferenceIdeal.S512x4096 .f32)
  (K V : FVec Ideal Cert.ReferenceIdeal.S2x128x64x64 .f32) (Wo : FVec Ideal Cert.ReferenceIdeal.S4096x512 .f32)

/-- Head `h` of query `i` in batch `b`, at its coordinate `d`. -/
def wholeHead (b : Fin 2) (i : Fin 2048) (h d : Fin 64) : EReal :=
  headOf (fun j => Cert.Plain.sees (ix2 i j)) (fun d => ∑ l : Fin 512, X (ix3 b i l) * Wq (ix2 l ⟨h.val * 64 + d.val, by omega⟩))
    (fun j d => K (ix4 b j h d)) (fun j d => V (ix4 b j h d)) d

/-- What column `p` of the heads side by side adds to the result. -/
def wholeTerm (b : Fin 2) (i : Fin 2048) (n : Fin 512) (p : Fin 4096) : EReal :=
  wholeHead X Wq K V b i ⟨p.val / 64, by omega⟩ ⟨p.val % 64, Nat.mod_lt _ (by decide)⟩ * Wo (ix2 p n)

theorem shares_apply (s : FVec Ideal Cert.ReferenceIdeal.S2x64x2048x128 .f32) (b : Fin 2) (h : Fin 64) (i : Fin 2048) (j : Fin 128) :
    Cert.Plain.allShares (Cert.Plain.allLifted s) (ix4 b h i j) = weigh (fun l => s (ix4 b h i l)) j := by
  rw [Cert.Plain.allShares_apply _ b i h j (Cert.Plain.seesAny_apply i)]
  simp only [Cert.Plain.allLifted_apply]
  rfl

theorem score_apply (b : Fin 2) (h : Fin 64) (i : Fin 2048) : (fun j : Fin 128 => Cert.Plain.allScores (Cert.Plain.allQueries X Wq) K (ix4 b h i j))
    = scoreOf (fun j => Cert.Plain.sees (ix2 i j)) (fun d => ∑ l : Fin 512, X (ix3 b i l) * Wq (ix2 l ⟨h.val * 64 + d.val, by omega⟩))
      (fun j d => K (ix4 b j h d)) := by
  funext j
  rw [Cert.Plain.allScores_apply]
  simp only [Cert.Plain.allQueries_apply]
  rfl

theorem mixed_apply (b : Fin 2) (i : Fin 2048) (p : Fin 4096) :
    Cert.Plain.allMixed V (Cert.Plain.allShares (Cert.Plain.allLifted (Cert.Plain.allScores (Cert.Plain.allQueries X Wq) K))) (ix3 b i p)
      = wholeHead X Wq K V b i ⟨p.val / 64, by omega⟩ ⟨p.val % 64, Nat.mod_lt _ (by decide)⟩ := by
  rw [Cert.Plain.allMixed_apply]
  unfold wholeHead headOf
  refine Finset.sum_congr rfl fun j _ => ?_
  rw [shares_apply, score_apply, mul_comm]

/-- The reference's result at an index, its columns in sixteen runs of 256. -/
theorem whole_apply (b : Fin 2) (i : Fin 2048) (n : Fin 512) :
    Host.dotGeneral Cert.ReferenceIdeal.dot_S2x2048x4096_S4096x512_S2x2048x512_2_0_01_1_n_n none
      (Cert.Plain.allMixed V (Cert.Plain.allShares (Cert.Plain.allLifted (Cert.Plain.allScores (Cert.Plain.allQueries X Wq) K)))) Wo (ix3 b i n)
      = ∑ e : Fin 16, ∑ p : Fin 256, wholeTerm X Wq K V Wo b i n ⟨e.val * 256 + p.val, by omega⟩ := by
  rw [Cert.Plain.result_apply, Fin.sum_univ_tiles 16 256 (by decide)]
  refine Finset.sum_congr rfl fun e _ => Finset.sum_congr rfl fun p _ => ?_
  rw [mixed_apply]
  rfl

/-! ## Device by device -/

variable (m : (ℓ : Loc nD τ sig) → Buf (Elt Ideal) ℓ)

/-- The kernel's arrays hold their parts of the whole ones, index by index. -/
structure Dealt : Prop where
  rows : ∀ (c : Dev nD) (b : Fin 2) (i : Fin 128) (l : Fin 512) (h : 128 * c.val + i.val < 2048),
    m ((c : Thread nD τ).loc main_arg0) (ix3 b i l : S2x128x512.Idx) = X (ix3 b ⟨128 * c.val + i.val, h⟩ l)
  queries : ∀ (c : Dev nD) (l : Fin 512) (p : Fin 256) (h : c.val * 256 + p.val < 4096),
    m ((c : Thread nD τ).loc main_arg1) (ix2 l p : S512x256.Idx) = Wq (ix2 l ⟨c.val * 256 + p.val, h⟩)
  keys : ∀ (c : Dev nD) (i : S2x128x64x64.Idx), m ((c : Thread nD τ).loc main_arg2) i = K i
  values : ∀ (c : Dev nD) (i : S2x128x64x64.Idx), m ((c : Thread nD τ).loc main_arg3) i = V i
  outputs : ∀ (c : Dev nD) (p : Fin 256) (n : Fin 512) (h : c.val * 256 + p.val < 4096),
    m ((c : Thread nD τ).loc main_arg4) (ix2 p n : S256x512.Idx) = Wo (ix2 ⟨c.val * 256 + p.val, h⟩ n)

variable {X Wq K V Wo m}

theorem lt_rows (c : Dev nD) (i : Fin 128) : 128 * c.val + i.val < 2048 := by
  have : c.val < 16 := c.isLt
  omega
theorem lt_cols (e : Dev nD) (p : Fin 256) : e.val * 256 + p.val < 4096 := by
  have : e.val < 16 := e.isLt
  omega
theorem lt_heads (e : Dev nD) (hh : Fin 4) : 4 * e.val + hh.val < 64 := by
  have : e.val < 16 := e.isLt
  omega

/-- A head of device `e` computed on device `c` is that head of the whole. -/
theorem head_eq (D : Dealt X Wq K V Wo m) (c e : Dev nD) (b : Fin 2) (i : Fin 128) (hh : Fin 4) (d : Fin 64) :
    headOf (fun j => maskOf c (ix2 i j))
      (fun d => ∑ l : Fin 512, k0_pay51 (xIn m c) (ix3 b i l) * slotVal (wIn m) e (ix3 0 l ⟨64 * hh.val + d.val, by omega⟩))
      (fun j d => heads e (kIn m c) (ix4 hh b j d)) (fun j d => heads e (vIn m c) (ix4 hh b j d)) d
      = wholeHead X Wq K V b ⟨128 * c.val + i.val, lt_rows c i⟩ ⟨4 * e.val + hh.val, lt_heads e hh⟩ d := by
  unfold wholeHead
  rw [show (fun j => maskOf c (ix2 i j)) = fun j => Cert.Plain.sees (ix2 ⟨128 * c.val + i.val, lt_rows c i⟩ j) from
    funext fun j => Cert.Mask.mask_eq c i j (lt_rows c i)]
  refine headOf_congr _ (fun d => Finset.sum_congr rfl fun l _ => ?_) (fun j d => ?_) (fun j d => ?_) d
  · rw [rows_apply, D.rows c b i l (lt_rows c i), slot_apply, weights_left m e l ⟨64 * hh.val + d.val, by omega⟩,
      D.queries e l ⟨64 * hh.val + d.val, by omega⟩ (lt_cols e _)]
    refine congrArg (fun q => X _ * Wq (ix2 l q)) (Fin.ext ?_)
    show e.val * 256 + (64 * hh.val + d.val) = (4 * e.val + hh.val) * 64 + d.val
    omega
  · rw [heads_apply, keys_apply, D.keys]
  · rw [heads_apply, values_apply, D.values]

theorem wholeHead_congr {b : Fin 2} {i : Fin 2048} {h h' d d' : Fin 64} (e : h.val = h'.val) (f : d.val = d'.val) :
    wholeHead X Wq K V b i h d = wholeHead X Wq K V b i h' d' := by
  rw [Fin.ext e, Fin.ext f]

/-- A device's part is its run of the whole's columns. -/
theorem part_eq (D : Dealt X Wq K V Wo m) (c e : Dev nD) (b : Fin 2) (i : Fin 128) (n : Fin 512) :
    part (wIn m) (maskOf c) (k0_pay51 (xIn m c)) (kIn m c) (vIn m c) e b i n
      = ∑ p : Fin 256, wholeTerm X Wq K V Wo b ⟨128 * c.val + i.val, lt_rows c i⟩ n ⟨e.val * 256 + p.val, lt_cols e p⟩ := by
  unfold part gain wholeTerm
  refine Finset.sum_congr rfl fun p _ => ?_
  rw [slot_apply, weights_right m e n p, D.outputs e p n (lt_cols e p)]
  refine congrArg (· * _) ?_
  unfold beside
  refine (head_eq D c e b i _ _).trans (wholeHead_congr ?_ ?_)
  · show 4 * e.val + p.val / 64 = (e.val * 256 + p.val) / 64
    omega
  · show p.val % 64 = (e.val * 256 + p.val) % 64
    omega

theorem block_apply (D : Dealt X Wq K V Wo m) (c : Dev nD) (b : Fin 2) (i : Fin 128) (n : Fin 512) :
    outVal m c (ix3 b i n) = Host.dotGeneral Cert.ReferenceIdeal.dot_S2x2048x4096_S4096x512_S2x2048x512_2_0_01_1_n_n none
      (Cert.Plain.allMixed V (Cert.Plain.allShares (Cert.Plain.allLifted (Cert.Plain.allScores (Cert.Plain.allQueries X Wq) K)))) Wo
      (ix3 b ⟨128 * c.val + i.val, lt_rows c i⟩ n) := by
  rw [whole_apply]
  unfold outVal
  rw [outAt_apply]
  exact Finset.sum_congr rfl fun e _ => part_eq D c e b i n

end Whole

/-! ## The arrays as blocks -/

theorem dealt_of (m : (ℓ : Loc nD τ sig) → Buf (Elt Ideal) ℓ)
    (X : FVec Ideal Cert.ReferenceIdeal.S2x2048x512 .f32) (Wq : FVec Ideal Cert.ReferenceIdeal.S512x4096 .f32)
    (K V : FVec Ideal Cert.ReferenceIdeal.S2x128x64x64 .f32) (Wo : FVec Ideal Cert.ReferenceIdeal.S4096x512 .f32)
    (h0 : ∀ c : Dev nD, m ((c : Thread nD τ).loc main_arg0) = Layout.block ⟨3, ![2, 128, 512]⟩ ⟨3, ![2, 2048, 512]⟩ 1 16 c X)
    (h1 : ∀ c : Dev nD, m ((c : Thread nD τ).loc main_arg1) = Layout.block ⟨2, ![512, 256]⟩ ⟨2, ![512, 4096]⟩ 1 16 c Wq)
    (h2 : ∀ c : Dev nD, m ((c : Thread nD τ).loc main_arg2) = K)
    (h3 : ∀ c : Dev nD, m ((c : Thread nD τ).loc main_arg3) = V)
    (h4 : ∀ c : Dev nD, m ((c : Thread nD τ).loc main_arg4) = Layout.block ⟨2, ![256, 512]⟩ ⟨2, ![4096, 512]⟩ 0 16 c Wo) :
    Dealt X Wq K V Wo m where
  rows c b i l h := by
    rw [h0 c]
    refine congrArg X (funext fun a => Fin.ext ?_)
    match a with
    | ⟨0, _⟩ => rfl
    | ⟨1, _⟩ => exact (show c.val * 128 + i.val = 128 * c.val + i.val by omega)
    | ⟨2, _⟩ => rfl
  queries c l p h := by
    rw [h1 c]
    refine congrArg Wq (funext fun a => Fin.ext ?_)
    match a with
    | ⟨0, _⟩ => rfl
    | ⟨1, _⟩ => rfl
  keys c i := congrFun (h2 c) i
  values c i := congrFun (h3 c) i
  outputs c p n h := by
    rw [h4 c]
    refine congrArg Wo (funext fun a => Fin.ext ?_)
    match a with
    | ⟨0, _⟩ => rfl
    | ⟨1, _⟩ => rfl

/-- The result's block on device `c` is block `c` of the reference's result. -/
theorem outVal_eq {m : (ℓ : Loc nD τ sig) → Buf (Elt Ideal) ℓ}
    (m' : (ℓ : Loc Cert.ReferenceIdeal.nD Cert.ReferenceIdeal.τ Cert.ReferenceIdeal.sig) → Buf (Elt Ideal) ℓ)
    (D : Dealt (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3))
      (m' ((0 : Dev Cert.ReferenceIdeal.nD).tc.loc Cert.ReferenceIdeal.main_arg4)) m) (c : Dev nD) :
    outVal m c = Layout.block ⟨3, ![2, 128, 512]⟩ ⟨3, ![2, 2048, 512]⟩ 1 16 c (Cert.ReferenceIdeal.Value.res_main_v44 m' 0) := by
  rw [Cert.Plain.result_eq]
  funext x
  obtain ⟨b, i, n, rfl⟩ : ∃ (b : Fin 2) (i : Fin 128) (n : Fin 512), x = ix3 b i n := ⟨x 0, x 1, x 2, by
    funext a
    match a with
    | ⟨0, _⟩ => rfl
    | ⟨1, _⟩ => rfl
    | ⟨2, _⟩ => rfl⟩
  rw [block_apply D]
  refine congrArg _ (funext fun a => Fin.ext ?_)
  match a with
  | ⟨0, _⟩ => rfl
  | ⟨1, _⟩ => exact (show 128 * c.val + i.val = c.val * 128 + i.val by omega)
  | ⟨2, _⟩ => rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent

@[expose] public section

set_option maxRecDepth 16384

noncomputable section

namespace Cert.Proof

open Idealize.ShloMosaic Idealize.SL.Sem

/-! ## The kernel as written, and over exact numbers: one text -/

section Text

variable {F : FTy → Type} [FloatOps F]

theorem bodies_eq : Cert.Kernel.defs₀ (F := F) = Cert.KernelIdeal.defs₀ (F := F) := by
  refine congrArg (Defs.onTc (nD := Cert.Kernel.nD) (τ := Cert.Kernel.τ) (sig := Cert.Kernel.sig) (Λ := Cert.Kernel.Λ₀))
    (funext fun l => funext fun a => ?_)
  have hl : l = (0 : Fin 1) := Subsingleton.elim (α := Fin 1) _ _
  subst hl
  rfl

theorem defs_eq : Cert.Kernel.defs (F := F) = Cert.KernelIdeal.defs (F := F) :=
  congrArg (Pipeline.defs (Cert.Kernel.pcfgs (F := F))) bodies_eq

end Text

/-! ## The claims -/

theorem frame_kernel : Cert.quiescent_Kernel := fun m ρ _ => by
  rw [defs_eq]
  exact (θ_run Cert.KernelIdeal.defs _ _).mono (fun _ h => ⟨fun c => (h.1 c).2.1, h.2⟩) (Cert.Gather.run_main (F := Bits) m ρ)

theorem frame_kernelIdeal : Cert.quiescent_KernelIdeal := fun m ρ _ =>
  (θ_run Cert.KernelIdeal.defs _ _).mono (fun _ h => ⟨fun c => (h.1 c).2.1, h.2⟩) (Cert.Gather.run_main (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := fun m ρ m' ρ' _ hm =>
  have D := Cert.Equation.dealt_of m _ _ _ _ _ (fun c => (hm c).1) (fun c => (hm c).2.1) (fun c => (hm c).2.2.1)
    (fun c => (hm c).2.2.2.1) (fun c => (hm c).2.2.2.2)
  ⟨Cert.ReferenceIdeal.Value.res_main_v44 m' 0,
    (θ_run Cert.KernelIdeal.defs _ _).mono
      (fun _ h c => ⟨(h.1 c).1.trans (Cert.Equation.outVal_eq m' D c), (h.1 c).2.1⟩) (Cert.Gather.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
